-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v78) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v87) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel : Cert.Kernel.Facts) (hKernelIdeal : Cert.KernelIdeal.Facts) (hReferenceIdeal : Cert.ReferenceIdeal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel (hKernel := hKernel)
    ∧ quiescent_KernelIdeal (hKernelIdeal := hKernelIdeal)
    ∧ quiescent_ReferenceIdeal (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel_KernelIdeal
    ∧ algebraic_KernelIdeal_ReferenceIdeal (hKernelIdeal := hKernelIdeal) (hReferenceIdeal := hReferenceIdeal)
-- ==== Kernel2.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x2304 : Shape := ⟨2, ![1, 2304]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2304 : Shape := ⟨2, ![1024, 2304]⟩
abbrev S2304 : Shape := ⟨1, ![2304]⟩
abbrev S8x2x4096x256 : Shape := ⟨4, ![8, 2, 4096, 256]⟩
abbrev S8x4096x256 : Shape := ⟨3, ![8, 4096, 256]⟩
abbrev S512x1024 : Shape := ⟨2, ![512, 1024]⟩
abbrev S1x2x512x256 : Shape := ⟨4, ![1, 2, 512, 256]⟩
abbrev S1x512x256 : Shape := ⟨3, ![1, 512, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S1x1x512x256 : Shape := ⟨4, ![1, 1, 512, 256]⟩

abbrev nBuf : Space → Nat
  | .hbm => 29
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2304, .f32⟩
  | .hbm, ⟨7, _⟩ => ⟨S1x2304, .f32⟩
  | .hbm, ⟨8, _⟩ => ⟨S32768x1024, .f32⟩
  | .hbm, ⟨9, _⟩ => ⟨S1024, .f32⟩
  | .hbm, ⟨10, _⟩ => ⟨S1x1024, .f32⟩
  | .hbm, ⟨11, _⟩ => ⟨S1024x5632, .f32⟩
  | .hbm, ⟨12, _⟩ => ⟨S1024x5632, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x2304, .f32⟩
  | .hbm, ⟨20, _⟩ => ⟨S1024x2304, .bf16⟩
  | .hbm, ⟨21, _⟩ => ⟨S2304, .f32⟩
  | .hbm, ⟨22, _⟩ => ⟨S1x2304, .f32⟩
  | .hbm, ⟨23, _⟩ => ⟨S32768x1024, .f32⟩
  | .hbm, ⟨24, _⟩ => ⟨S8x2x4096x256, .bf16⟩
  | .hbm, ⟨25, _⟩ => ⟨S8x2x4096x256, .bf16⟩
  | .hbm, ⟨26, _⟩ => ⟨S8x2x4096x256, .bf16⟩
  | .hbm, ⟨27, _⟩ => ⟨S8x2x4096x256, .bf16⟩
  | .hbm, ⟨28, _⟩ => ⟨S8x4096x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x2304, .bf16⟩
  | .local _ .vmem, ⟨8, _⟩ => ⟨S1x2304, .f32⟩
  | .local _ .vmem, ⟨9, _⟩ => ⟨S512x1024, .f32⟩
  | .local _ .vmem, ⟨10, _⟩ => ⟨S512x1024, .f32⟩
  | .local _ .vmem, ⟨11, _⟩ => ⟨S1x2x512x256, .bf16⟩
  | .local _ .vmem, ⟨12, _⟩ => ⟨S1x2x512x256, .bf16⟩
  | .local _ .vmem, ⟨13, _⟩ => ⟨S1x2x512x256, .bf16⟩
  | .local _ .vmem, ⟨14, _⟩ => ⟨S1x2x512x256, .bf16⟩
  | .local _ .vmem, ⟨15, _⟩ => ⟨S1x2x512x256, .bf16⟩
  | .local _ .vmem, ⟨16, _⟩ => ⟨S1x2x512x256, .bf16⟩
  | .local _ .vmem, ⟨17, _⟩ => ⟨S1x2x512x256, .bf16⟩
  | .local _ .vmem, ⟨18, _⟩ => ⟨S1x2x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S512x1024, .bf16⟩
  | .local _ .vmem, ⟨22, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x2304 : Shape := ⟨2, ![1, 2304]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S1024x2304 : Shape := ⟨2, ![1024, 2304]⟩
abbrev S8x4096x2304 : Shape := ⟨3, ![8, 4096, 2304]⟩
abbrev S2304 : Shape := ⟨1, ![2304]⟩
abbrev S1x1x2304 : Shape := ⟨3, ![1, 1, 2304]⟩
abbrev S8x4096x512 : Shape := ⟨3, ![8, 4096, 512]⟩
abbrev S8x4096x256 : Shape := ⟨3, ![8, 4096, 256]⟩
abbrev S32768x1024 : Shape := ⟨2, ![32768, 1024]⟩
abbrev S8x4096x2x256 : Shape := ⟨4, ![8, 4096, 2, 256]⟩
abbrev S8x2x4096x256 : Shape := ⟨4, ![8, 2, 4096, 256]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1x1024x2304, .f32⟩
  | .hbm, ⟨7, _⟩ => ⟨S1x2304, .f32⟩
  | .hbm, ⟨8, _⟩ => ⟨S1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S1024x5632, .f32⟩
  | .hbm, ⟨26, _⟩ => ⟨S2816x1024, .f32⟩
  | .hbm, ⟨27, _⟩ => ⟨S8x4096x5632, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S1024x2304, .f32⟩
  | .hbm, ⟨80, _⟩ => ⟨S8x4096x2304, .f32⟩
  | .hbm, ⟨81, _⟩ => ⟨S2304, .f32⟩
  | .hbm, ⟨82, _⟩ => ⟨S1x1x2304, .f32⟩
  | .hbm, ⟨83, _⟩ => ⟨S8x4096x2304, .f32⟩
  | .hbm, ⟨84, _⟩ => ⟨S8x4096x2304, .f32⟩
  | .hbm, ⟨85, _⟩ => ⟨S8x4096x512, .f32⟩
  | .hbm, ⟨86, _⟩ => ⟨S8x4096x256, .f32⟩
  | .hbm, ⟨87, _⟩ => ⟨S8x4096x512, .f32⟩
  | .hbm, ⟨88, _⟩ => ⟨S8x4096x512, .f32⟩
  | .hbm, ⟨89, _⟩ => ⟨S8x4096x512, .f32⟩
  | .hbm, ⟨90, _⟩ => ⟨S32768x1024, .f32⟩
  | .hbm, ⟨91, _⟩ => ⟨S_, .f32⟩
  | .hbm, ⟨92, _⟩ => ⟨S8x4096x512, .f32⟩
  | .hbm, ⟨93, _⟩ => ⟨S8x4096x512, .f32⟩
  | .hbm, ⟨94, _⟩ => ⟨S8x4096x2x256, .f32⟩
  | .hbm, ⟨95, _⟩ => ⟨S8x2x4096x256, .f32⟩
  | .hbm, ⟨96, _⟩ => ⟨S8x2x4096x256, .bf16⟩
  | .hbm, ⟨97, _⟩ => ⟨S8x4096x2x256, .f32⟩
  | .hbm, ⟨98, _⟩ => ⟨S8x2x4096x256, .f32⟩
  | .hbm, ⟨99, _⟩ => ⟨S8x2x4096x256, .bf16⟩
  | .hbm, ⟨100, _⟩ => ⟨S8x4096x2x256, .f32⟩
  | .hbm, ⟨101, _⟩ => ⟨S8x2x4096x256, .f32⟩
  | .hbm, ⟨102, _⟩ => ⟨S8x2x4096x256, .bf16⟩
  | .hbm, ⟨103, _⟩ => ⟨S_, .f32⟩
  | .hbm, ⟨104, _⟩ => ⟨S8x4096x512, .f32⟩
  | .hbm, ⟨105, _⟩ => ⟨S8x4096x512, .f32⟩
  | .hbm, ⟨106, _⟩ => ⟨S8x4096x2x256, .f32⟩
  | .hbm, ⟨107, _⟩ => ⟨S8x2x4096x256, .f32⟩
  | .hbm, ⟨108, _⟩ => ⟨S8x2x4096x256, .bf16⟩
  | .hbm, ⟨109, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1x8x4096x256 : Shape := ⟨4, ![1, 8, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S8x4096x256 : Shape := ⟨3, ![8, 4096, 256]⟩
abbrev S32768x256 : Shape := ⟨2, ![32768, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S8x4096x1024 : Shape := ⟨3, ![8, 4096, 1024]⟩

abbrev nBuf : Space → Nat
  | .hbm => 46
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S1x8x4096x256, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024x5632, .f32⟩
  | .hbm, ⟨14, _⟩ => ⟨S1x2816x1024, .f32⟩
  | .hbm, ⟨15, _⟩ => ⟨S1x1024, .f32⟩
  | .hbm, ⟨16, _⟩ => ⟨S1x1024, .f32⟩
  | .hbm, ⟨17, _⟩ => ⟨S1x1024x1024, .f32⟩
  | .hbm, ⟨18, _⟩ => ⟨S1x256x1024, .f32⟩
  | .hbm, ⟨19, _⟩ => ⟨S1x1024, .f32⟩
  | .hbm, ⟨20, _⟩ => ⟨S8x4096x256, .f32⟩
  | .hbm, ⟨21, _⟩ => ⟨S32768x256, .f32⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024x5632, .f32⟩
  | .hbm, ⟨31, _⟩ => ⟨S1024x5632, .bf16⟩
  | .hbm, ⟨32, _⟩ => ⟨S2816x1024, .f32⟩
  | .hbm, ⟨33, _⟩ => ⟨S2816x1024, .bf16⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S256x1024, .f32⟩
  | .hbm, ⟨41, _⟩ => ⟨S256x1024, .bf16⟩
  | .hbm, ⟨42, _⟩ => ⟨S1024, .f32⟩
  | .hbm, ⟨43, _⟩ => ⟨S1x1024, .f32⟩
  | .hbm, ⟨44, _⟩ => ⟨S32768x1024, .f32⟩
  | .hbm, ⟨45, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x5632, .bf16⟩
  | .local _ .vmem, ⟨23, _⟩ => ⟨S2816x1024, .bf16⟩
  | .local _ .vmem, ⟨24, _⟩ => ⟨S1x1024, .f32⟩
  | .local _ .vmem, ⟨25, _⟩ => ⟨S1x1024, .f32⟩
  | .local _ .vmem, ⟨26, _⟩ => ⟨S1024x1024, .bf16⟩
  | .local _ .vmem, ⟨27, _⟩ => ⟨S256x1024, .bf16⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S32768x1024 : Shape := ⟨2, ![32768, 1024]⟩
abbrev S32768x512 : Shape := ⟨2, ![32768, 512]⟩
abbrev S1x8x4096x256 : Shape := ⟨4, ![1, 8, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5632 : Shape := ⟨2, ![1024, 5632]⟩
abbrev S2816x1024 : Shape := ⟨2, ![2816, 1024]⟩
abbrev S32768x5632 : Shape := ⟨2, ![32768, 5632]⟩
abbrev S32768x2816 : Shape := ⟨2, ![32768, 2816]⟩
abbrev S8x4096x256 : Shape := ⟨3, ![8, 4096, 256]⟩
abbrev S32768x256 : Shape := ⟨2, ![32768, 256]⟩
abbrev S256x1024 : Shape := ⟨2, ![256, 1024]⟩
abbrev S8x4096x1024 : Shape := ⟨3, ![8, 4096, 1024]⟩

abbrev nBuf : Space → Nat
  | .hbm => 170
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S32768x512, .bf16⟩
  | 4 => ⟨S32768x512, .bf16⟩
  | 5 => ⟨S32768x512, .f32⟩
  | 6 => ⟨S32768x512, .f32⟩
  | 7 => ⟨S32768x512, .f32⟩
  | 8 => ⟨S1x8x4096x256, .f32⟩
  | 9 => ⟨S1x1024x1024, .f32⟩
  | 10 => ⟨S1x1024, .f32⟩
  | 11 => ⟨S1x1024, .f32⟩
  | 12 => ⟨S1x1024, .f32⟩
  | 13 => ⟨S1x1024x5632, .f32⟩
  | 14 => ⟨S1x2816x1024, .f32⟩
  | 15 => ⟨S1x1024, .f32⟩
  | 16 => ⟨S1x1024, .f32⟩
  | 17 => ⟨S1x1024x1024, .f32⟩
  | 18 => ⟨S1x256x1024, .f32⟩
  | 19 => ⟨S1x1024, .f32⟩
  | 20 => ⟨S32768x512, .f32⟩
  | 21 => ⟨S32768x512, .f32⟩
  | 22 => ⟨S32768x512, .f32⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S32768x512, .f32⟩
  | 30 => ⟨S32768x512, .f32⟩
  | 31 => ⟨S32768x512, .f32⟩
  | 32 => ⟨S32768x512, .f32⟩
  | 33 => ⟨S32768x512, .f32⟩
  | 34 => ⟨S32768x512, .f32⟩
  | 35 => ⟨S32768x512, .f32⟩
  | 36 => ⟨S32768x512, .f32⟩
  | 37 => ⟨S32768x512, .f32⟩
  | 38 => ⟨S32768x512, .f32⟩
  | 39 => ⟨S32768x512, .f32⟩
  | 40 => ⟨S32768x1024, .f32⟩
  | 41 => ⟨S1024x1024, .f32⟩
  | 42 => ⟨S32768x1024, .f32⟩
  | 43 => ⟨S1024, .f32⟩
  | 44 => ⟨S1x1024, .f32⟩
  | 45 => ⟨S32768x1024, .f32⟩
  | 46 => ⟨S32768x1024, .f32⟩
  | 47 => ⟨S1024, .f32⟩
  | 48 => ⟨S32768x1024, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x1024, .f32⟩
  | 60 => ⟨S32768x1024, .f32⟩
  | 61 => ⟨S1x1024, .f32⟩
  | 62 => ⟨S32768x1024, .f32⟩
  | 63 => ⟨S32768x1024, .f32⟩
  | 64 => ⟨S32768x1024, .f32⟩
  | 65 => ⟨S1024, .f32⟩
  | 66 => ⟨S32768x1024, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1024, .f32⟩
  | 78 => ⟨S32768x1024, .f32⟩
  | 79 => ⟨S1x1024, .f32⟩
  | 80 => ⟨S32768x1024, .f32⟩
  | 81 => ⟨S32768x1024, .f32⟩
  | 82 => ⟨S1024x5632, .f32⟩
  | 83 => ⟨S2816x1024, .f32⟩
  | 84 => ⟨S32768x5632, .f32⟩
  | 85 => ⟨S32768x2816, .f32⟩
  | 86 => ⟨S32768x2816, .f32⟩
  | 87 => ⟨S32768x2816, .f32⟩
  | 88 => ⟨S32768x2816, .f32⟩
  | 89 => ⟨S_, .f32⟩
  | 90 => ⟨S32768x2816, .f32⟩
  | 91 => ⟨S32768x2816, .f32⟩
  | 92 => ⟨S_, .f32⟩
  | 93 => ⟨S32768x2816, .f32⟩
  | 94 => ⟨S32768x2816, .f32⟩
  | 95 => ⟨S32768x2816, .f32⟩
  | 96 => ⟨S32768x2816, .f32⟩
  | 97 => ⟨S32768x1024, .f32⟩
  | 98 => ⟨S1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1024, .f32⟩
  | 111 => ⟨S32768x1024, .f32⟩
  | 112 => ⟨S1x1024, .f32⟩
  | 113 => ⟨S32768x1024, .f32⟩
  | 114 => ⟨S32768x1024, .f32⟩
  | 115 => ⟨S_, .f32⟩
  | 116 => ⟨S32768x1024, .f32⟩
  | 117 => ⟨S32768x1024, .f32⟩
  | 118 => ⟨S32768x1024, .f32⟩
  | 119 => ⟨S1024, .f32⟩
  | 120 => ⟨S32768x1024, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S_, .f32⟩
  | _ => ⟨S32768x1024, .f32⟩

abbrev hbmTy0_1 (i : Nat) : BufTy := match i % 128 with
  | 0 => ⟨S32768x1, .f32⟩
  | 1 => ⟨S32768x1, .f32⟩
  | 2 => ⟨S32768x1, .f32⟩
  | 3 => ⟨S32768x1024, .f32⟩
  | 4 => ⟨S32768x1024, .f32⟩
  | 5 => ⟨S1x1024, .f32⟩
  | 6 => ⟨S32768x1024, .f32⟩
  | 7 => ⟨S32768x1024, .f32⟩
  | 8 => ⟨S1024x1024, .f32⟩
  | 9 => ⟨S32768x1024, .f32⟩
  | 10 => ⟨S32768x1024, .f32⟩
  | 11 => ⟨S32768x1024, .f32⟩
  | 12 => ⟨S_, .f32⟩
  | 13 => ⟨S32768x1024, .f32⟩
  | 14 => ⟨S32768x1024, .f32⟩
  | 15 => ⟨S_, .f32⟩
  | 16 => ⟨S32768x1024, .f32⟩
  | 17 => ⟨S32768x1024, .f32⟩
  | 18 => ⟨S8x4096x256, .f32⟩
  | 19 => ⟨S32768x256, .f32⟩
  | 20 => ⟨S256x1024, .f32⟩
  | 21 => ⟨S32768x1024, .f32⟩
  | 22 => ⟨S32768x1024, .f32⟩
  | 23 => ⟨S1024, .f32⟩
  | 24 => ⟨S32768x1024, .f32⟩
  | 25 => ⟨S_, .f32⟩
  | 26 => ⟨S32768, .f32⟩
  | 27 => ⟨S32768x1, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S32768x1, .f32⟩
  | 35 => ⟨S32768x1024, .f32⟩
  | 36 => ⟨S32768x1024, .f32⟩
  | 37 => ⟨S1x1024, .f32⟩
  | 38 => ⟨S32768x1024, .f32⟩
  | 39 => ⟨S32768x1024, .f32⟩
  | 40 => ⟨S32768x1024, .f32⟩
  | 41 => ⟨S8x4096x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_v47 : Ref sig .tc := ⟨.hbm, 72, rfl⟩
abbrev main_cst_4 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_7 : Ref sig .tc := ⟨.hbm, 100, rfl⟩
abbrev main_v72 : Ref sig .tc := ⟨.hbm, 101, rfl⟩
abbrev main_v73 : Ref sig .tc := ⟨.hbm, 102, rfl⟩
abbrev main_cst_8 : Ref sig .tc := ⟨.hbm, 103, rfl⟩
abbrev main_v74 : Ref sig .tc := ⟨.hbm, 104, rfl⟩
abbrev main_v75 : Ref sig .tc := ⟨.hbm, 105, rfl⟩
abbrev main_cst_9 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_11 : Ref sig .tc := ⟨.hbm, 121, rfl⟩
abbrev main_v89 : Ref sig .tc := ⟨.hbm, 122, rfl⟩
abbrev main_v90 : Ref sig .tc := ⟨.hbm, 123, rfl⟩
abbrev main_cst_12 : Ref sig .tc := ⟨.hbm, 124, rfl⟩
abbrev main_v91 : Ref sig .tc := ⟨.hbm, 125, rfl⟩
abbrev main_v92 : Ref sig .tc := ⟨.hbm, 126, rfl⟩
abbrev main_cst_13 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_14 : Ref sig .tc := ⟨.hbm, 140, rfl⟩
abbrev main_v105 : Ref sig .tc := ⟨.hbm, 141, rfl⟩
abbrev main_v106 : Ref sig .tc := ⟨.hbm, 142, rfl⟩
abbrev main_cst_15 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_16 : Ref sig .tc := ⟨.hbm, 153, rfl⟩
abbrev main_v116 : Ref sig .tc := ⟨.hbm, 154, rfl⟩
abbrev main_v117 : Ref sig .tc := ⟨.hbm, 155, rfl⟩
abbrev main_cst_17 : Ref sig .tc := ⟨.hbm, 156, rfl⟩
abbrev main_v118 : Ref sig .tc := ⟨.hbm, 157, rfl⟩
abbrev main_v119 : Ref sig .tc := ⟨.hbm, 158, rfl⟩
abbrev main_cst_18 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩

abbrev nD : Nat := 1
abbrev τ : Topo := Topo.v7x

variable {F : FTy → Type} [FloatOps F]
-- ==== Kernel.lean ====
abbrev S16x128x256 : Shape := ⟨3, ![16, 128, 256]⟩
abbrev S1x8 : Shape := ⟨2, ![1, 8]⟩
abbrev S8x2x4096x256 : Shape := ⟨4, ![8, 2, 4096, 256]⟩
abbrev S8x4096x256 : Shape := ⟨3, ![8, 4096, 256]⟩
abbrev S8 : Shape := ⟨1, ![8]⟩
abbrev S8x4096x512 : Shape := ⟨3, ![8, 4096, 512]⟩
abbrev S1x2x512x256 : Shape := ⟨4, ![1, 2, 512, 256]⟩
abbrev S1x128x256 : Shape := ⟨3, ![1, 128, 256]⟩
abbrev S1x512x256 : Shape := ⟨3, ![1, 512, 256]⟩
abbrev S1x512x512 : Shape := ⟨3, ![1, 512, 512]⟩
abbrev S640x128 : Shape := ⟨2, ![640, 128]⟩
abbrev S128x256 : Shape := ⟨2, ![128, 256]⟩
abbrev S512x256 : Shape := ⟨2, ![512, 256]⟩
abbrev S640x256 : Shape := ⟨2, ![640, 256]⟩
abbrev S640x64 : Shape := ⟨2, ![640, 64]⟩
abbrev S1x1x128x128 : Shape := ⟨4, ![1, 1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x128x128 : Shape := ⟨3, ![1, 128, 128]⟩
abbrev S32768x512 : Shape := ⟨2, ![32768, 512]⟩

abbrev nBuf : Space → Nat
  | .hbm => 7
  | .vmem => 9
  | .smem => 1
  | _ => 0

abbrev bufTy : (tb : Table) → Fin (tcTables nBuf tb) → BufTy
  | .hbm, ⟨0, _⟩ => ⟨S16x128x256, .f32⟩
  | .hbm, ⟨1, _⟩ => ⟨S1x8, .f32⟩
  | .hbm, ⟨2, _⟩ => ⟨S8x2x4096x256, .bf16⟩
  | .hbm, ⟨3, _⟩ => ⟨S8x4096x256, .bf16⟩
  | .hbm, ⟨4, _⟩ => ⟨S8, .f32⟩
  | .hbm, ⟨5, _⟩ => ⟨S8x4096x512, .bf16⟩
  | .hbm, ⟨6, _⟩ => ⟨S32768x512, .bf16⟩
  | .local _ .vmem, ⟨0, _⟩ => ⟨S1x2x512x256, .bf16⟩
  | .local _ .vmem, ⟨1, _⟩ => ⟨S1x2x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S16x128x256, .f32⟩
  | .local _ .vmem, ⟨7, _⟩ => ⟨S1x512x512, .bf16⟩
  | .local _ .vmem, ⟨8, _⟩ => ⟨S1x512x512, .bf16⟩
  | .local _ .smem, ⟨0, _⟩ => ⟨S8, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_off1 (i : grid0.Coords) (c0_i32_10 : BitVec 32) : Fin 3 → Nat :=
  let arg1 : BitVec 32 := BitVec.ofNat 32 (i 1).val
  let c0_i32 : BitVec 32 := 0#32
  let v0 : BitVec 1 := Scalar.cmpi .eq arg1 c0_i32
  let c0_i32_9 : BitVec 32 := 0#32
  let c1_i32 : BitVec 32 := 1#32
  let v24 : BitVec 32 := Scalar.select v0 c0_i32_9 c1_i32
  let v25 : BitVec 32 := Scalar.addi c0_i32_10 v24
  let v26 : Index := Scalar.indexCast v25
  let c0_11 : Index := 0#32
  let c0_12 : Index := 0#32
  ![v26.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x128x256 : Shape := ⟨3, ![16, 128, 256]⟩
abbrev S1x8 : Shape := ⟨2, ![1, 8]⟩
abbrev S8x2x4096x256 : Shape := ⟨4, ![8, 2, 4096, 256]⟩
abbrev S8x4096x256 : Shape := ⟨3, ![8, 4096, 256]⟩
abbrev S8x4096x2x256 : Shape := ⟨4, ![8, 4096, 2, 256]⟩
abbrev S8x4096x8x64 : Shape := ⟨4, ![8, 4096, 8, 64]⟩
abbrev S8x32x128x2x4x64 : Shape := ⟨6, ![8, 32, 128, 2, 4, 64]⟩
abbrev S8x32x128x2x2x64 : Shape := ⟨6, ![8, 32, 128, 2, 2, 64]⟩
abbrev S8x1x128x2x2x64 : Shape := ⟨6, ![8, 1, 128, 2, 2, 64]⟩
abbrev S8x31x128x2x2x64 : Shape := ⟨6, ![8, 31, 128, 2, 2, 64]⟩
abbrev S8x32x256x2x2x64 : Shape := ⟨6, ![8, 32, 256, 2, 2, 64]⟩
abbrev S8x32x256x1x2x64 : Shape := ⟨6, ![8, 32, 256, 1, 2, 64]⟩
abbrev S8x32x256x2x64 : Shape := ⟨5, ![8, 32, 256, 2, 64]⟩
abbrev S2x4x2x128x256 : Shape := ⟨5, ![2, 4, 2, 128, 256]⟩
abbrev S2x2x4x128x256 : Shape := ⟨5, ![2, 2, 4, 128, 256]⟩
abbrev S1x2x4x128x256 : Shape := ⟨5, ![1, 2, 4, 128, 256]⟩
abbrev S31x2x4x128x256 : Shape := ⟨5, ![31, 2, 4, 128, 256]⟩
abbrev S32x2x4x128x256 : Shape := ⟨5, ![32, 2, 4, 128, 256]⟩
abbrev S8x32x2x256x128x4 : Shape := ⟨6, ![8, 32, 2, 256, 128, 4]⟩
abbrev S8x32x2x4x128x256 : Shape := ⟨6, ![8, 32, 2, 4, 128, 256]⟩
abbrev S1x32x2x4x128x256 : Shape := ⟨6, ![1, 32, 2, 4, 128, 256]⟩
abbrev S_ : Shape := ⟨0, ![]⟩
abbrev S8x32x2x4x128 : Shape := ⟨5, ![8, 32, 2, 4, 128]⟩
abbrev S8x32x2x4x128x1 : Shape := ⟨6, ![8, 32, 2, 4, 128, 1]⟩
abbrev S8x32x2x4x128x64 : Shape := ⟨6, ![8, 32, 2, 4, 128, 64]⟩
abbrev S8 : Shape := ⟨1, ![8]⟩
abbrev S2x4x1 : Shape := ⟨3, ![2, 4, 1]⟩
abbrev S1x1x2x4x1 : Shape := ⟨5, ![1, 1, 2, 4, 1]⟩
abbrev S32768x512 : Shape := ⟨2, ![32768, 512]⟩

abbrev nBuf : Space → Nat
  | .hbm => 58
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S1x8, .f32⟩
  | .hbm, ⟨2, _⟩ => ⟨S8x2x4096x256, .bf16⟩
  | .hbm, ⟨3, _⟩ => ⟨S8x4096x256, .bf16⟩
  | .hbm, ⟨4, _⟩ => ⟨S8x2x4096x256, .f32⟩
  | .hbm, ⟨5, _⟩ => ⟨S8x4096x2x256, .f32⟩
  | .hbm, ⟨6, _⟩ => ⟨S8x4096x8x64, .f32⟩
  | .hbm, ⟨7, _⟩ => ⟨S8x32x128x2x4x64, .f32⟩
  | .hbm, ⟨8, _⟩ => ⟨S8x4096x256, .f32⟩
  | .hbm, ⟨9, _⟩ => ⟨S8x32x128x2x2x64, .f32⟩
  | .hbm, ⟨10, _⟩ => ⟨S8x1x128x2x2x64, .f32⟩
  | .hbm, ⟨11, _⟩ => ⟨S8x31x128x2x2x64, .f32⟩
  | .hbm, ⟨12, _⟩ => ⟨S8x32x128x2x2x64, .f32⟩
  | .hbm, ⟨13, _⟩ => ⟨S8x32x256x2x2x64, .f32⟩
  | .hbm, ⟨14, _⟩ => ⟨S8x32x256x1x2x64, .f32⟩
  | .hbm, ⟨15, _⟩ => ⟨S8x32x256x2x64, .f32⟩
  | .hbm, ⟨16, _⟩ => ⟨S8x32x256x1x2x64, .f32⟩
  | .hbm, ⟨17, _⟩ => ⟨S8x32x256x2x64, .f32⟩
  | .hbm, ⟨18, _⟩ => ⟨S2x4x2x128x256, .f32⟩
  | .hbm, ⟨19, _⟩ => ⟨S2x2x4x128x256, .f32⟩
  | .hbm, ⟨20, _⟩ => ⟨S1x2x4x128x256, .f32⟩
  | .hbm, ⟨21, _⟩ => ⟨S1x2x4x128x256, .f32⟩
  | .hbm, ⟨22, _⟩ => ⟨S31x2x4x128x256, .f32⟩
  | .hbm, ⟨23, _⟩ => ⟨S32x2x4x128x256, .f32⟩
  | .hbm, ⟨24, _⟩ => ⟨S8x32x2x256x128x4, .f32⟩
  | .hbm, ⟨25, _⟩ => ⟨S8x32x2x4x128x256, .f32⟩
  | .hbm, ⟨26, _⟩ => ⟨S1x32x2x4x128x256, .f32⟩
  | .hbm, ⟨27, _⟩ => ⟨S8x32x2x4x128x256, .f32⟩
  | .hbm, ⟨28, _⟩ => ⟨S8x32x2x4x128x256, .f32⟩
  | .hbm, ⟨29, _⟩ => ⟨S_, .f32⟩
  | .hbm, ⟨30, _⟩ => ⟨S8x32x2x4x128, .f32⟩
  | .hbm, ⟨31, _⟩ => ⟨S8x32x2x4x128x1, .f32⟩
  | .hbm, ⟨32, _⟩ => ⟨S8x32x2x4x128x256, .f32⟩
  | .hbm, ⟨33, _⟩ => ⟨S8x32x2x4x128x256, .f32⟩
  | .hbm, ⟨34, _⟩ => ⟨S8x32x2x4x128x256, .f32⟩
  | .hbm, ⟨35, _⟩ => ⟨S_, .f32⟩
  | .hbm, ⟨36, _⟩ => ⟨S8x32x2x4x128, .f32⟩
  | .hbm, ⟨37, _⟩ => ⟨S8x32x2x4x128x64, .f32⟩
  | .hbm, ⟨38, _⟩ => ⟨S8, .f32⟩
  | .hbm, ⟨39, _⟩ => ⟨S2x4x1, .f32⟩
  | .hbm, ⟨40, _⟩ => ⟨S1x1x2x4x1, .f32⟩
  | .hbm, ⟨41, _⟩ => ⟨S8x32x2x4x128, .f32⟩
  | .hbm, ⟨42, _⟩ => ⟨S8x32x2x4x128, .f32⟩
  | .hbm, ⟨43, _⟩ => ⟨S8x32x2x4x128, .f32⟩
  | .hbm, ⟨44, _⟩ => ⟨S8x32x2x4x128, .f32⟩
  | .hbm, ⟨45, _⟩ => ⟨S8x32x2x4x128, .f32⟩
  | .hbm, ⟨46, _⟩ => ⟨S1x1x2x4x1, .f32⟩
  | .hbm, ⟨47, _⟩ => ⟨S8x32x2x4x128, .f32⟩
  | .hbm, ⟨48, _⟩ => ⟨S8x32x2x4x128, .f32⟩
  | .hbm, ⟨49, _⟩ => ⟨S8x32x2x4x128, .f32⟩
  | .hbm, ⟨50, _⟩ => ⟨S8x32x2x4x128, .f32⟩
  | .hbm, ⟨51, _⟩ => ⟨S8x32x2x4x128, .f32⟩
  | .hbm, ⟨52, _⟩ => ⟨S8x32x2x4x128x1, .f32⟩
  | .hbm, ⟨53, _⟩ => ⟨S8x32x2x4x128x64, .f32⟩
  | .hbm, ⟨54, _⟩ => ⟨S8x32x2x4x128x64, .f32⟩
  | .hbm, ⟨55, _⟩ => ⟨S8x32x128x2x4x64, .f32⟩
  | .hbm, ⟨56, _⟩ => ⟨S32768x512, .f32⟩
  | .hbm, ⟨57, _⟩ => ⟨S32768x512, .bf16⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Proof.Soft.lean ====
module

public import Idealize.ShloMosaic.PureOps.Ideal.Laws
public import Idealize.ShloMosaic.Lib.IdealHost

@[expose] public section

noncomputable section

/-!
The row functions of the layer on extended reals, and the laws the proof uses: which of them give real numbers, how a
softmax over a window of keys equals the softmax over all keys with the others at minus infinity, and how the merge of
three softmaxes by their denominators equals the merge by their logarithms.
-/

namespace Layer

open Idealize.ShloMosaic
open scoped BigOperators

/-! ### Real values -/

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, by push_cast; rfl⟩

theorem IsReal.mul {x y : EReal} (hx : IsReal x) (hy : IsReal y) : IsReal (x * y) := by
  obtain ⟨a, rfl⟩ := hx; obtain ⟨b, rfl⟩ := hy
  exact ⟨a * b, by push_cast; rfl⟩

theorem IsReal.sum {ι : Type} (s : Finset ι) {f : ι → EReal} (h : ∀ i, IsReal (f i)) : IsReal (∑ i ∈ s, f i) := by
  choose g hg using h
  refine ⟨∑ i ∈ s, g i, ?_⟩
  rw [Finset.sum_congr rfl fun i _ => hg i]
  induction s using Finset.cons_induction with
  | empty => simp
  | cons a s ha ih => rw [Finset.sum_cons, Finset.sum_cons, ih, EReal.coe_add]

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

theorem isReal_of_ne {x : EReal} (h : x ≠ ⊤) (h' : x ≠ ⊥) : IsReal x := by
  induction x with
  | bot => exact absurd rfl h'
  | top => exact absurd rfl h
  | coe r => exact ⟨r, rfl⟩

/-- A sum with a real factor on the right, factored out. -/
theorem sum_mul_real {ι : Type} (s : Finset ι) (f : ι → EReal) (hf : ∀ i, IsReal (f i)) (c : EReal) (hc : IsReal c) :
    ∑ i ∈ s, f i * c = (∑ i ∈ s, f i) * c := by
  induction s using Finset.cons_induction with
  | empty => simp
  | cons a s ha ih =>
    rw [Finset.sum_cons, Finset.sum_cons, ih]
    obtain ⟨u, hu⟩ := hf a
    obtain ⟨v, hv⟩ := IsReal.sum s hf
    obtain ⟨w, rfl⟩ := hc
    rw [hu, hv, ← EReal.coe_mul, ← EReal.coe_mul, ← EReal.coe_add, ← EReal.coe_add, ← EReal.coe_mul, add_mul]

/-! ### Softmax over a finite set of keys -/

/-- The largest logit. -/
def softMax {n : ℕ} (l : Fin n → EReal) : EReal := Finset.univ.fold max ⊥ l

/-- The weight of logit `x` when the largest is `m`. -/
def softW (m x : EReal) : EReal := Ideal.exp (x - m)

/-- The sum of the weights. -/
def softDen {n : ℕ} (l : Fin n → EReal) : EReal := ∑ k, softW (softMax l) (l k)

/-- The weighted sum of the values. -/
def softOut {n : ℕ} (l v : Fin n → EReal) : EReal := ∑ k, softW (softMax l) (l k) * v k

theorem softW_bot (m : EReal) : softW m ⊥ = 0 := by
  unfold softW; rw [EReal.bot_sub]; rfl

theorem softMax_eq_sup {n : ℕ} (l : Fin n → EReal) : softMax l = Finset.univ.sup l := by
  unfold softMax; rfl

section reindex

variable {n N : ℕ} (ι : Fin n → Fin N) (P : Fin n → Prop) (a : Fin n → EReal) (b : Fin N → EReal)

theorem softMax_reindex (hon : ∀ i, P i → a i = b (ι i)) (hoff : ∀ i, ¬ P i → a i = ⊥)
    (hcov : ∀ j, b j ≠ ⊥ → ∃ i, P i ∧ ι i = j) : softMax a = softMax b := by
  rw [softMax_eq_sup, softMax_eq_sup]
  refine le_antisymm (Finset.sup_le fun i _ => ?_) (Finset.sup_le fun j _ => ?_)
  · by_cases h : P i
    · rw [hon i h]; exact Finset.le_sup (f := b) (Finset.mem_univ _)
    · rw [hoff i h]; exact bot_le
  · by_cases h : b j = ⊥
    · rw [h]; exact bot_le
    · obtain ⟨i, hi, rfl⟩ := hcov j h
      rw [← hon i hi]; exact Finset.le_sup (f := a) (Finset.mem_univ _)

theorem sum_reindex (hinj : ∀ i j, P i → P j → ι i = ι j → i = j) (hon : ∀ i, P i → a i = b (ι i))
    (hoff : ∀ i, ¬ P i → a i = ⊥) (hcov : ∀ j, b j ≠ ⊥ → ∃ i, P i ∧ ι i = j) (m : EReal)
    (v : Fin n → EReal) (w : Fin N → EReal) (hv : ∀ i, P i → v i = w (ι i)) :
    ∑ i, softW m (a i) * v i = ∑ j, softW m (b j) * w j := by
  classical
  rw [← Finset.sum_filter_of_ne (p := P) (s := Finset.univ), ← Finset.sum_subset (Finset.subset_univ
    ((Finset.univ.filter P).image ι)), Finset.sum_image]
  · refine Finset.sum_congr rfl fun i hi => ?_
    have h := (Finset.mem_filter.mp hi).2
    rw [hon i h, hv i h]
  · intro i hi j hj h
    exact hinj i j (Finset.mem_filter.mp hi).2 (Finset.mem_filter.mp hj).2 h
  · intro j _ hj
    have : b j = ⊥ := by
      by_contra h
      obtain ⟨i, hi, rfl⟩ := hcov j h
      exact hj (Finset.mem_image.mpr ⟨i, Finset.mem_filter.mpr ⟨Finset.mem_univ _, hi⟩, rfl⟩)
    rw [this, softW_bot, zero_mul]
  · intro i _ h
    by_contra hP
    exact h (by rw [hoff i hP, softW_bot, zero_mul])

theorem softOut_reindex (hinj : ∀ i j, P i → P j → ι i = ι j → i = j) (hon : ∀ i, P i → a i = b (ι i))
    (hoff : ∀ i, ¬ P i → a i = ⊥) (hcov : ∀ j, b j ≠ ⊥ → ∃ i, P i ∧ ι i = j)
    (v : Fin n → EReal) (w : Fin N → EReal) (hv : ∀ i, P i → v i = w (ι i)) : softOut a v = softOut b w := by
  unfold softOut
  rw [softMax_reindex ι P a b hon hoff hcov]
  exact sum_reindex ι P a b hinj hon hoff hcov _ v w hv

theorem softDen_reindex (hinj : ∀ i j, P i → P j → ι i = ι j → i = j) (hon : ∀ i, P i → a i = b (ι i))
    (hoff : ∀ i, ¬ P i → a i = ⊥) (hcov : ∀ j, b j ≠ ⊥ → ∃ i, P i ∧ ι i = j) : softDen a = softDen b := by
  have h := softOut_reindex ι P a b hinj hon hoff hcov (fun _ => 1) (fun _ => 1) (fun _ _ => rfl)
  unfold softOut at h; unfold softDen
  simpa only [mul_one] using h

end reindex

/-- Logits none of which is plus infinity. -/
def Below {n : ℕ} (l : Fin n → EReal) : Prop := (∀ k, l k ≠ ⊤) ∧ ∃ k, l k ≠ ⊥

theorem softMax_real {n : ℕ} {l : Fin n → EReal} (h : Below l) : IsReal (softMax l) := by
  rw [softMax_eq_sup]
  obtain ⟨ht, k, hk⟩ := h
  refine isReal_of_ne ?_ ?_
  · exact ((Finset.sup_lt_iff (bot_lt_top)).mpr fun i _ => lt_top_iff_ne_top.mpr (ht i)).ne
  · intro hb
    have : l k ≤ Finset.univ.sup l := Finset.le_sup (f := l) (Finset.mem_univ k)
    rw [hb] at this
    exact hk (le_bot_iff.mp this)

theorem softW_real {m x : EReal} (hm : IsReal m) (hx : x ≠ ⊤) : ∃ r : ℝ, 0 ≤ r ∧ softW m x = (r : EReal) := by
  obtain ⟨a, rfl⟩ := hm
  induction x with
  | bot => exact ⟨0, le_rfl, by rw [softW_bot]; rfl⟩
  | top => exact absurd rfl hx
  | coe r => exact ⟨Real.exp (r - a), (Real.exp_pos _).le, by unfold softW; rw [← EReal.coe_sub]; rfl⟩

theorem softW_pos {m x : EReal} (hm : IsReal m) (hx : IsReal x) : ∃ r : ℝ, 0 < r ∧ softW m x = (r : EReal) := by
  obtain ⟨a, rfl⟩ := hm; obtain ⟨r, rfl⟩ := hx
  exact ⟨Real.exp (r - a), Real.exp_pos _, by unfold softW; rw [← EReal.coe_sub]; rfl⟩

theorem coe_sum_real {ι : Type} (s : Finset ι) (g : ι → ℝ) :
    ∑ i ∈ s, (g i : EReal) = ((∑ i ∈ s, g i : ℝ) : EReal) := by
  induction s using Finset.cons_induction with
  | empty => simp
  | cons a s ha ih => rw [Finset.sum_cons, Finset.sum_cons, ih, EReal.coe_add]

theorem softDen_pos {n : ℕ} {l : Fin n → EReal} (h : Below l) : ∃ r : ℝ, 0 < r ∧ softDen l = (r : EReal) := by
  have hm := softMax_real h
  choose g hg0 hg using fun k => softW_real hm (h.1 k)
  obtain ⟨k, hk⟩ := h.2
  refine ⟨∑ k, g k, ?_, ?_⟩
  · refine Finset.sum_pos' (fun i _ => hg0 i) ⟨k, Finset.mem_univ _, ?_⟩
    obtain ⟨r, hr, e⟩ := softW_pos hm (isReal_of_ne (h.1 k) hk)
    rw [hg k] at e
    rw [EReal.coe_eq_coe_iff.mp e]; exact hr
  · unfold softDen
    rw [Finset.sum_congr rfl fun k _ => hg k, coe_sum_real]

theorem softOut_real {n : ℕ} {l v : Fin n → EReal} (h : Below l) (hv : ∀ k, IsReal (v k)) : IsReal (softOut l v) := by
  have hm := softMax_real h
  refine IsReal.sum _ fun k => IsReal.mul ?_ (hv k)
  obtain ⟨r, _, e⟩ := softW_real hm (h.1 k)
  exact ⟨r, e⟩

theorem softOut_zero {n : ℕ} (l : Fin n → EReal) : softOut l (fun _ => 0) = 0 := by
  unfold softOut; simp

/-! ### The merge of three softmaxes -/

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else _) = _
  rw [if_neg (not_le.mpr h)]

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The merge by the denominators' logarithms: normalised outputs weighted by `exp (lse - max)`. -/
def mergeLse (o1 o2 o3 l1 l2 l3 : EReal) : EReal :=
  let lm := max (max l1 l2) l3
  Ideal.div (Ideal.exp (l1 - lm) * o1 + Ideal.exp (l2 - lm) * o2 + Ideal.exp (l3 - lm) * o3)
    (Ideal.exp (l1 - lm) + Ideal.exp (l2 - lm) + Ideal.exp (l3 - lm))

/-- The merge of unnormalised outputs and denominators by `exp (m - max)`. -/
def mergeDen (o1 o2 o3 m1 m2 m3 d1 d2 d3 : EReal) : EReal :=
  let mm := max (max m1 m2) m3
  Ideal.div (Ideal.exp (m1 - mm) * o1 + Ideal.exp (m2 - mm) * o2 + Ideal.exp (m3 - mm) * o3)
    (Ideal.exp (m1 - mm) * d1 + Ideal.exp (m2 - mm) * d2 + Ideal.exp (m3 - mm) * d3)

theorem merge_eq {o1 o2 o3 m1 m2 m3 d1 d2 d3 : EReal} (ho1 : IsReal o1) (ho2 : IsReal o2) (ho3 : IsReal o3)
    (hm1 : IsReal m1) (hm2 : IsReal m2) (hm3 : IsReal m3) (hd1 : ∃ r : ℝ, 0 < r ∧ d1 = (r : EReal))
    (hd2 : ∃ r : ℝ, 0 < r ∧ d2 = (r : EReal)) (hd3 : ∃ r : ℝ, 0 < r ∧ d3 = (r : EReal)) :
    mergeLse (Ideal.div o1 d1) (Ideal.div o2 d2) (Ideal.div o3 d3) (m1 + Ideal.log d1) (m2 + Ideal.log d2)
      (m3 + Ideal.log d3) = mergeDen o1 o2 o3 m1 m2 m3 d1 d2 d3 := by
  obtain ⟨o1, rfl⟩ := ho1; obtain ⟨o2, rfl⟩ := ho2; obtain ⟨o3, rfl⟩ := ho3
  obtain ⟨m1, rfl⟩ := hm1; obtain ⟨m2, rfl⟩ := hm2; obtain ⟨m3, rfl⟩ := hm3
  obtain ⟨d1, h1, rfl⟩ := hd1; obtain ⟨d2, h2, rfl⟩ := hd2; obtain ⟨d3, h3, rfl⟩ := hd3
  unfold mergeLse mergeDen
  simp only [div_coe h1.ne', div_coe h2.ne', div_coe h3.ne', log_coe h1, log_coe h2, log_coe h3, max_coe,
    ← EReal.coe_add, ← EReal.coe_sub, exp_coe, ← EReal.coe_mul]
  generalize max (max (m1 + Real.log d1) (m2 + Real.log d2)) (m3 + Real.log d3) = L
  generalize max (max m1 m2) m3 = M
  rw [div_coe (by positivity), div_coe (by positivity)]
  congr 1
  have e (m d : ℝ) (h : 0 < d) : Real.exp (m + Real.log d - L) = Real.exp (m - M) * d * Real.exp (M - L) := by
    rw [show m + Real.log d - L = (m - M) + Real.log d + (M - L) by ring, Real.exp_add, Real.exp_add, Real.exp_log h]
  rw [e m1 d1 h1, e m2 d2 h2, e m3 d3 h3]
  have hE := Real.exp_pos (M - L)
  rw [div_eq_div_iff (by positivity) (by positivity)]
  field_simp

/-! ### Root mean square rows and the gated activation -/

/-- The scale of a root mean square norm from the row's sum of squares. -/
def rmsScale (s : EReal) : EReal :=
  Ideal.rsqrt (Ideal.div s (Ideal.ofBits .f32 0x44800000#32) + Ideal.ofBits .f32 0x358637BD#32)

/-- A row normalised by its root mean square and multiplied by a gain. -/
def rms {n : ℕ} (x g : Fin n → EReal) (d : Fin n) : EReal := x d * rmsScale (∑ k, x k * x k) * g d

/-- The logistic function. -/
def sig (z : EReal) : EReal := Ideal.div 1 (1 + Ideal.exp (-z))

/-- A gated activation. -/
def swi (g u : EReal) : EReal := g * sig g * u

theorem ofBits_width : Ideal.ofBits .f32 0x44800000#32 = ((1024 : ℝ) : EReal) := by
  simp [Ideal.ofBits, Ideal.ieee, ← EReal.coe_mul]
  norm_num

theorem ofBits_eps : ∃ r : ℝ, 0 < r ∧ Ideal.ofBits .f32 0x358637BD#32 = (r : EReal) := by
  refine ⟨_, ?_, by simp [Ideal.ofBits, Ideal.ieee]; rfl⟩
  positivity

theorem ofBits_eighth : Ideal.ofBits .f32 0x3E000000#32 = ((1 / 8 : ℝ) : EReal) := by
  simp [Ideal.ofBits, Ideal.ieee, ← EReal.coe_mul]
  norm_num

theorem ofBits_neg_inf : Ideal.ofBits .f32 0xFF800000#32 = (⊥ : EReal) := by
  simp [Ideal.ofBits, Ideal.ieee]

theorem mul_self_nonneg' (x : EReal) : 0 ≤ x * x := by
  induction x with
  | bot => simp
  | top => simp
  | coe r => rw [← EReal.coe_mul]; exact_mod_cast mul_self_nonneg r

theorem rmsScale_top : rmsScale ⊤ = 0 := by
  obtain ⟨r, hr, e⟩ := ofBits_eps
  unfold rmsScale Ideal.div
  rw [ofBits_width, if_neg (by norm_num), e, ← EReal.coe_inv, EReal.top_mul_coe_of_pos (by norm_num), EReal.top_add_coe]
  rfl

theorem rmsScale_real {s : ℝ} (hs : 0 ≤ s) : IsReal (rmsScale (s : EReal)) := by
  obtain ⟨r, hr, e⟩ := ofBits_eps
  unfold rmsScale
  rw [ofBits_width, div_coe (by norm_num), e, ← EReal.coe_add]
  show IsReal (if (s / 1024 + r : ℝ) < 0 then ⊥ else if (s / 1024 + r : ℝ) = 0 then ⊤ else _)
  have : 0 < s / 1024 + r := by positivity
  rw [if_neg (not_lt.mpr this.le), if_neg this.ne']
  exact ⟨_, rfl⟩

/-- A normalised row is real whatever the row is: a row with an infinite entry is scaled by zero. -/
theorem rms_real {n : ℕ} (x g : Fin n → EReal) (d : Fin n) (hg : IsReal (g d)) : IsReal (rms x g d) := by
  refine IsReal.mul ?_ hg
  by_cases h : ∀ k, IsReal (x k)
  · refine IsReal.mul (h d) ?_
    choose y hy using h
    rw [Finset.sum_congr rfl fun k _ => show x k * x k = ((y k * y k : ℝ) : EReal) by rw [hy k, EReal.coe_mul],
      coe_sum_real]
    exact rmsScale_real (Finset.sum_nonneg fun k _ => mul_self_nonneg _)
  · push Not at h
    obtain ⟨k, hk⟩ := h
    have hs : ∑ k, x k * x k = ⊤ := by
      have hle : x k * x k ≤ ∑ k, x k * x k :=
        Finset.single_le_sum (f := fun k => x k * x k) (fun i _ => mul_self_nonneg' _) (Finset.mem_univ k)
      have : x k * x k = ⊤ := by
        generalize x k = y at hk ⊢
        induction y with
        | bot => simp
        | top => simp
        | coe r => exact absurd ⟨r, rfl⟩ hk
      rw [this] at hle
      exact top_le_iff.mp hle
    rw [hs, rmsScale_top, mul_zero]
    exact IsReal.zero

/-! ### The feed-forward block, the projection and the tail, row by row -/

/-- The gated activations of a row. -/
def actRow {f2 : ℕ} (f : ℕ) (hf : f2 = f + f) (y : Fin 1024 → EReal) (wgu : Fin 1024 → Fin f2 → EReal) (c : Fin f) :
    EReal :=
  swi (∑ k, y k * wgu k ⟨c.val, by omega⟩) (∑ k, y k * wgu k ⟨f + c.val, by omega⟩)

/-- A row after a feed-forward block: half the normalised block output added. -/
def ffnRow (x g : Fin 1024 → EReal) (wgu : Fin 1024 → Fin 5632 → EReal) (wd : Fin 2816 → Fin 1024 → EReal)
    (gp : Fin 1024 → EReal) (d : Fin 1024) : EReal :=
  x d + Ideal.ofBits .f32 0x3F000000#32 *
    rms (fun d => ∑ c, actRow 2816 rfl (rms x g) wgu c * wd c d) gp d

/-- A projected row. -/
def projRow {n : ℕ} (h g : Fin 1024 → EReal) (w : Fin 1024 → Fin n → EReal) (b : Fin n → EReal) (j : Fin n) : EReal :=
  ∑ k, rms h g k * w k j + b j

/-- A row after the attention output's projection is added. -/
def mixRow (h mix : Fin 1024 → EReal) (w : Fin 1024 → Fin 1024 → EReal) (b g : Fin 1024 → EReal) (d : Fin 1024) :
    EReal :=
  h d + rms (fun d => ∑ k, mix k * w k d + b d) g d

/-- A row after the gated per-layer embedding is added. -/
def gateRow (h g : Fin 1024 → EReal) (wg : Fin 1024 → Fin 1024 → EReal) (p : Fin 256 → EReal)
    (wp : Fin 256 → Fin 1024 → EReal) (gp : Fin 1024 → EReal) (d : Fin 1024) : EReal :=
  h d + rms (fun d => sig (∑ k, rms h g k * wg k d) * ∑ k, p k * wp k d) gp d

theorem projRow_real {n : ℕ} (h g : Fin 1024 → EReal) (w : Fin 1024 → Fin n → EReal) (b : Fin n → EReal) (j : Fin n)
    (hg : ∀ k, IsReal (g k)) (hw : ∀ k, IsReal (w k j)) (hb : IsReal (b j)) : IsReal (projRow h g w b j) :=
  (IsReal.sum _ fun k => (rms_real h g k (hg k)).mul (hw k)).add hb

end Layer
-- ==== Proof.FirstPay.lean ====
module

public import proofs.«01_k».proof.Proof.Soft
public import proofs.«01_k».proof.Proof.Gen.Kernel2Ideal.Skeleton
public import Idealize.ShloMosaic.Lib.Pointwise

@[expose] public section

set_option maxRecDepth 16384

noncomputable section

/-!
The values that the first stage's kernel stores, read at an index.
-/

namespace Layer.First

open Cert.Kernel2Ideal Cert.Kernel2Ideal.Gen Idealize.ShloMosaic
open scoped BigOperators

/-- The row product of a block of rows with a block of columns. -/
def rowDot {n k : ℕ} (a : (⟨2, ![512, k]⟩ : Shape).Idx → EReal) (w : (⟨2, ![k, n]⟩ : Shape).Idx → EReal) (r : Fin 512) (j : Fin n) : EReal :=
  ∑ i : Fin k, a (ix2 r i) * w (ix2 i j)

/-- The gated product of two row products. -/
def gated (a : Vec Ideal S512x1024 .bf16) (w : Vec Ideal S1024x256 .bf16) (b : Vec Ideal S512x1024 .bf16)
    (u : Vec Ideal S1024x256 .bf16) (r : Fin 512) (j : Fin 256) : EReal :=
  swi (rowDot a w r j) (rowDot b u r j)

/-- The first normalisation. -/
theorem pay2 (x : Vec Ideal S512x1024 .f32) (g : Vec Ideal S1x1024 .f32) (r : Fin 512) (d : Fin 1024) :
    k0_pay2 (F := Ideal) x g (ix2 r d) = rms (fun k => x (ix2 r k)) (fun k => g (ix2 0 k)) d := by
  pointwise [k0_pay2]
  rfl

/-- The normalisation before the projections. -/
theorem pay26 (x : Vec Ideal S512x1024 .f32) (g : Vec Ideal S1x1024 .f32) (r : Fin 512) (d : Fin 1024) :
    k0_pay26 (F := Ideal) x g (ix2 r d) = rms (fun k => x (ix2 r k)) (fun k => g (ix2 0 k)) d := by
  pointwise [k0_pay26]
  rfl

/-- The row after the feed-forward block. -/
theorem pay25 (a : Vec Ideal S512x2816 .bf16) (w : Vec Ideal S2816x1024 .bf16) (x : Vec Ideal S512x1024 .f32)
    (g : Vec Ideal S1x1024 .f32) (r : Fin 512) (d : Fin 1024) :
    k0_pay25 (F := Ideal) a w x g (ix2 r d) =
      x (ix2 r d) + Ideal.ofBits .f32 0x3F000000#32 * rms (fun k => rowDot a w r k) (fun k => g (ix2 0 k)) d := by
  pointwise [k0_pay25]
  rfl

/-- One chunk of the gated activations. -/
theorem chunk0 (a : Vec Ideal S512x1024 .bf16) (w : Vec Ideal S1024x256 .bf16) (b : Vec Ideal S512x1024 .bf16)
    (u : Vec Ideal S1024x256 .bf16) (r : Fin 512) (j : Fin 256) :
    k0_pay5 (F := Ideal) (k0_pay3 b u) (k0_pay4 a w) (ix2 r j) = gated a w b u r j := by
  pointwise [k0_pay5, k0_pay3, k0_pay4]
  simp only [sub_eq_add_neg, zero_add]
  rfl

/-- One chunk of the gated activations. -/
theorem chunk1 (a : Vec Ideal S512x1024 .bf16) (w : Vec Ideal S1024x256 .bf16) (b : Vec Ideal S512x1024 .bf16)
    (u : Vec Ideal S1024x256 .bf16) (r : Fin 512) (j : Fin 256) :
    k0_pay6 (F := Ideal) a w b u (ix2 r j) = gated a w b u r j := by
  pointwise [k0_pay6]
  simp only [sub_eq_add_neg, zero_add]
  rfl

/-- One chunk of the gated activations. -/
theorem chunk2 (a : Vec Ideal S512x1024 .bf16) (w : Vec Ideal S1024x256 .bf16) (b : Vec Ideal S512x1024 .bf16)
    (u : Vec Ideal S1024x256 .bf16) (r : Fin 512) (j : Fin 256) :
    k0_pay8 (F := Ideal) (k0_pay7 a w) b u (ix2 r j) = gated a w b u r j := by
  pointwise [k0_pay8, k0_pay7]
  simp only [sub_eq_add_neg, zero_add]
  rfl

/-- One chunk of the gated activations. -/
theorem chunk3 (a : Vec Ideal S512x1024 .bf16) (w : Vec Ideal S1024x256 .bf16) (b : Vec Ideal S512x1024 .bf16)
    (u : Vec Ideal S1024x256 .bf16) (r : Fin 512) (j : Fin 256) :
    k0_pay9 (F := Ideal) a w b u (ix2 r j) = gated a w b u r j := by
  pointwise [k0_pay9]
  simp only [sub_eq_add_neg, zero_add]
  rfl

/-- One chunk of the gated activations. -/
theorem chunk4 (a : Vec Ideal S512x1024 .bf16) (w : Vec Ideal S1024x256 .bf16) (b : Vec Ideal S512x1024 .bf16)
    (u : Vec Ideal S1024x256 .bf16) (r : Fin 512) (j : Fin 256) :
    k0_pay10 (F := Ideal) a w b u (ix2 r j) = gated a w b u r j := by
  pointwise [k0_pay10]
  simp only [sub_eq_add_neg, zero_add]
  rfl

/-- One chunk of the gated activations. -/
theorem chunk5 (a : Vec Ideal S512x1024 .bf16) (w : Vec Ideal S1024x256 .bf16) (b : Vec Ideal S512x1024 .bf16)
    (u : Vec Ideal S1024x256 .bf16) (r : Fin 512) (j : Fin 256) :
    k0_pay15 (F := Ideal) (k0_pay11 a w) (k0_pay12 b u) (k0_pay13 a w) k0_pay14 (ix2 r j) = gated a w b u r j := by
  pointwise [k0_pay15, k0_pay11, k0_pay12, k0_pay13, k0_pay14]
  simp only [sub_eq_add_neg, zero_add]
  rfl

/-- One chunk of the gated activations. -/
theorem chunk6 (a : Vec Ideal S512x1024 .bf16) (w : Vec Ideal S1024x256 .bf16) (b : Vec Ideal S512x1024 .bf16)
    (u : Vec Ideal S1024x256 .bf16) (r : Fin 512) (j : Fin 256) :
    k0_pay16 (F := Ideal) a w b u (ix2 r j) = gated a w b u r j := by
  pointwise [k0_pay16]
  simp only [sub_eq_add_neg, zero_add]
  rfl

/-- One chunk of the gated activations. -/
theorem chunk7 (a : Vec Ideal S512x1024 .bf16) (w : Vec Ideal S1024x256 .bf16) (b : Vec Ideal S512x1024 .bf16)
    (u : Vec Ideal S1024x256 .bf16) (r : Fin 512) (j : Fin 256) :
    k0_pay18 (F := Ideal) (k0_pay17 a w) b u (ix2 r j) = gated a w b u r j := by
  pointwise [k0_pay18, k0_pay17]
  simp only [sub_eq_add_neg, zero_add]
  rfl

/-- One chunk of the gated activations. -/
theorem chunk8 (a : Vec Ideal S512x1024 .bf16) (w : Vec Ideal S1024x256 .bf16) (b : Vec Ideal S512x1024 .bf16)
    (u : Vec Ideal S1024x256 .bf16) (r : Fin 512) (j : Fin 256) :
    k0_pay20 (F := Ideal) (k0_pay19 a w b u) (ix2 r j) = gated a w b u r j := by
  pointwise [k0_pay20, k0_pay19]
  simp only [sub_eq_add_neg, zero_add]
  rfl

/-- One chunk of the gated activations. -/
theorem chunk9 (a : Vec Ideal S512x1024 .bf16) (w : Vec Ideal S1024x256 .bf16) (b : Vec Ideal S512x1024 .bf16)
    (u : Vec Ideal S1024x256 .bf16) (r : Fin 512) (j : Fin 256) :
    k0_pay21 (F := Ideal) a w b u (ix2 r j) = gated a w b u r j := by
  pointwise [k0_pay21]
  simp only [sub_eq_add_neg, zero_add]
  rfl

/-- One chunk of the gated activations. -/
theorem chunk10 (a : Vec Ideal S512x1024 .bf16) (w : Vec Ideal S1024x256 .bf16) (b : Vec Ideal S512x1024 .bf16)
    (u : Vec Ideal S1024x256 .bf16) (r : Fin 512) (j : Fin 256) :
    k0_pay24 (F := Ideal) (k0_pay22 a w) (k0_pay23 b u) (Scalar.ofBits .f32 0x00000000#32) (ix2 r j) = gated a w b u r j := by
  pointwise [k0_pay24, k0_pay22, k0_pay23]
  simp only [sub_eq_add_neg, zero_add]
  rfl

/-- One block of projected columns. -/
theorem pay27 (a : Vec Ideal S512x1024 .bf16) (w : Vec Ideal S1024x256 .bf16) (b : Vec Ideal S1x256 .f32) (r : Fin 512)
    (j : Fin 256) : k0_pay27 (F := Ideal) a w b (ix4 0 0 r j) = (rowDot a w r j + b (ix2 0 j)) * Ideal.ofBits .f32 0x3E000000#32 := by
  pointwise [k0_pay27]
  rfl

/-- One block of projected columns. -/
theorem pay29 (a : Vec Ideal S512x1024 .bf16) (w : Vec Ideal S1024x256 .bf16) (b : Vec Ideal S1x256 .f32) (r : Fin 512)
    (j : Fin 256) : k0_pay29 (F := Ideal) (k0_pay28 a w) b (ix4 0 0 r j) = (rowDot a w r j + b (ix2 0 j)) * Ideal.ofBits .f32 0x3E000000#32 := by
  pointwise [k0_pay29, k0_pay28]
  rfl

/-- One block of projected columns. -/
theorem pay30 (a : Vec Ideal S512x1024 .bf16) (w : Vec Ideal S1024x256 .bf16) (b : Vec Ideal S1x256 .f32) (r : Fin 512)
    (j : Fin 256) : k0_pay30 (F := Ideal) a w b (ix4 0 0 r j) = rowDot a w r j + b (ix2 0 j) := by
  pointwise [k0_pay30]
  rfl

/-- One block of projected columns. -/
theorem pay32 (a : Vec Ideal S512x1024 .bf16) (w : Vec Ideal S1024x256 .bf16) (b : Vec Ideal S1x256 .f32) (r : Fin 512)
    (j : Fin 256) : k0_pay32 (F := Ideal) (k0_pay31 a w b) (ix4 0 0 r j) = rowDot a w r j + b (ix2 0 j) := by
  pointwise [k0_pay32, k0_pay31]
  rfl

/-- One block of projected columns. -/
theorem pay33 (a : Vec Ideal S512x1024 .bf16) (w : Vec Ideal S1024x256 .bf16) (b : Vec Ideal S1x256 .f32) (r : Fin 512)
    (j : Fin 256) : k0_pay33 (F := Ideal) a w b (ix4 0 0 r j) = (rowDot a w r j + b (ix2 0 j)) * Ideal.ofBits .f32 0x3E000000#32 := by
  pointwise [k0_pay33]
  rfl

/-- One block of projected columns. -/
theorem pay34 (a : Vec Ideal S512x1024 .bf16) (w : Vec Ideal S1024x256 .bf16) (b : Vec Ideal S1x256 .f32) (r : Fin 512)
    (j : Fin 256) : k0_pay34 (F := Ideal) a w b (ix4 0 0 r j) = (rowDot a w r j + b (ix2 0 j)) * Ideal.ofBits .f32 0x3E000000#32 := by
  pointwise [k0_pay34]
  rfl

/-- One block of projected columns. -/
theorem pay35 (a : Vec Ideal S512x1024 .bf16) (w : Vec Ideal S1024x256 .bf16) (b : Vec Ideal S1x256 .f32) (r : Fin 512)
    (j : Fin 256) : k0_pay35 (F := Ideal) a w b (ix4 0 0 r j) = rowDot a w r j + b (ix2 0 j) := by
  pointwise [k0_pay35]
  rfl

/-- One block of projected columns. -/
theorem pay36 (a : Vec Ideal S512x1024 .bf16) (w : Vec Ideal S1024x256 .bf16) (b : Vec Ideal S1x256 .f32) (r : Fin 512)
    (j : Fin 256) : k0_pay36 (F := Ideal) a w b (ix4 0 0 r j) = rowDot a w r j + b (ix2 0 j) := by
  pointwise [k0_pay36]
  rfl

/-- One block of projected columns. -/
theorem pay1 (a : Vec Ideal S512x1024 .bf16) (w : Vec Ideal S1024x256 .bf16) (b : Vec Ideal S1x256 .f32) (r : Fin 512)
    (j : Fin 256) : k0_pay1 (F := Ideal) (k0_pay37 a w) b (ix3 0 r j) = rowDot a w r j + b (ix2 0 j) := by
  pointwise [k0_pay1, k0_pay37]
  rfl

end Layer.First
-- ==== Proof.FirstOut.lean ====
module

public import proofs.«01_k».proof.Proof.FirstPay
public import proofs.«01_k».proof.Proof.Gen.Kernel2Ideal.Frame
public import Idealize.ShloMosaic.Lib.Pipeline.ValueKit
public import Idealize.ShloMosaic.Lib.Pipeline.ReadBack
public import Idealize.ShloMosaic.Lib.Pipeline.Covers

@[expose] public section

set_option maxRecDepth 16384

noncomputable section

/-!
The first block's grid: what each point leaves in its output blocks, at an index.
-/

namespace Layer.First

open Cert.Kernel2Ideal Cert.Kernel2Ideal.Gen Idealize.ShloMosaic Idealize.ShloMosaic.TcCoe Idealize.SL Idealize.SL.Sem
open scoped BigOperators

/-- One column tile of the gated activations. -/
theorem gated_ld (n : Vec Ideal S512x1024 .bf16) (W : Vec Ideal S1024x5632 .bf16) (o p : ℕ)
    (ho : ∀ a, (![0, o] : Fin 2 → Nat) a + S1024x256.size a ≤ S1024x5632.size a)
    (hp : ∀ a, (![0, p] : Fin 2 → Nat) a + S1024x256.size a ≤ S1024x5632.size a)
    (r : Fin 512) (j : Fin 256) (c : Fin 2816) (hc : c.val = o + j.val) (hq : p = 2816 + o) :
    gated n (View.ld W (Rect.unit ![0, o] ![1024, 256] ho)) n (View.ld W (Rect.unit ![0, p] ![1024, 256] hp)) r j =
      actRow 2816 rfl (fun k => n (ix2 r k)) (fun k j => W (ix2 k j)) c := by
  unfold gated actRow rowDot
  congr 1
  · refine Finset.sum_congr rfl fun k _ => congrArg (n (ix2 r k) * ·) ?_
    refine View.ld_unit_apply_of _ _ _ _ _ _ fun a => ?_
    fin_cases a
    · simp
    · simpa using hc
  · refine Finset.sum_congr rfl fun k _ => congrArg (n (ix2 r k) * ·) ?_
    refine View.ld_unit_apply_of _ _ _ _ _ _ fun a => ?_
    fin_cases a
    · simp
    · simp [hc, hq]; omega

/-- The gated activations of a block of rows. -/
def actTile (n : Vec Ideal S512x1024 .bf16) (W : Vec Ideal S1024x5632 .bf16) : Vec Ideal S512x2816 .bf16 := fun y =>
  actRow 2816 rfl (fun k => n (ix2 (y 0) k)) (fun k j => W (ix2 k j)) (y 1)

/-- The stored activations read back. -/
theorem scr (n : Vec Ideal S512x1024 .bf16) (W : Vec Ideal S1024x5632 .bf16) :
    (View.whole cc0_scratch1).readCov (Val := Elt Ideal)
          [⟨Rect.unit ![0, 2560] ![512, 256] inb_S512x2816_S512x256_0_2560,
              k0_pay24
                (k0_pay22 n
                  (View.ld W (Rect.unit ![0, 2560] ![1024, 256] inb_S1024x5632_S1024x256_0_2560)))
                (k0_pay23 n
                  (View.ld W (Rect.unit ![0, 5376] ![1024, 256] inb_S1024x5632_S1024x256_0_5376)))
                (FloatOps.ofBits FTy.f32 0#32)⟩,
            ⟨Rect.unit ![0, 2304] ![512, 256] inb_S512x2816_S512x256_0_2304,
              k0_pay21 n
                (View.ld W (Rect.unit ![0, 2304] ![1024, 256] inb_S1024x5632_S1024x256_0_2304))
                n
                (View.ld W (Rect.unit ![0, 5120] ![1024, 256] inb_S1024x5632_S1024x256_0_5120))⟩,
            ⟨Rect.unit ![0, 2048] ![512, 256] inb_S512x2816_S512x256_0_2048,
              k0_pay20
                (k0_pay19 n
                  (View.ld W (Rect.unit ![0, 2048] ![1024, 256] inb_S1024x5632_S1024x256_0_2048))
                  n
                  (View.ld W (Rect.unit ![0, 4864] ![1024, 256] inb_S1024x5632_S1024x256_0_4864)))⟩,
            ⟨Rect.unit ![0, 1792] ![512, 256] inb_S512x2816_S512x256_0_1792,
              k0_pay18
                (k0_pay17 n
                  (View.ld W (Rect.unit ![0, 1792] ![1024, 256] inb_S1024x5632_S1024x256_0_1792)))
                n
                (View.ld W (Rect.unit ![0, 4608] ![1024, 256] inb_S1024x5632_S1024x256_0_4608))⟩,
            ⟨Rect.unit ![0, 1536] ![512, 256] inb_S512x2816_S512x256_0_1536,
              k0_pay16 n
                (View.ld W (Rect.unit ![0, 1536] ![1024, 256] inb_S1024x5632_S1024x256_0_1536))
                n
                (View.ld W (Rect.unit ![0, 4352] ![1024, 256] inb_S1024x5632_S1024x256_0_4352))⟩,
            ⟨Rect.unit ![0, 1280] ![512, 256] inb_S512x2816_S512x256_0_1280,
              k0_pay15
                (k0_pay11 n
                  (View.ld W (Rect.unit ![0, 1280] ![1024, 256] inb_S1024x5632_S1024x256_0_1280)))
                (k0_pay12 n
                  (View.ld W (Rect.unit ![0, 4096] ![1024, 256] inb_S1024x5632_S1024x256_0_4096)))
                (k0_pay13 n
                  (View.ld W (Rect.unit ![0, 1280] ![1024, 256] inb_S1024x5632_S1024x256_0_1280)))
                k0_pay14⟩,
            ⟨Rect.unit ![0, 1024] ![512, 256] inb_S512x2816_S512x256_0_1024,
              k0_pay10 n
                (View.ld W (Rect.unit ![0, 1024] ![1024, 256] inb_S1024x5632_S1024x256_0_1024))
                n
                (View.ld W (Rect.unit ![0, 3840] ![1024, 256] inb_S1024x5632_S1024x256_0_3840))⟩,
            ⟨Rect.unit ![0, 768] ![512, 256] inb_S512x2816_S512x256_0_768,
              k0_pay9 n
                (View.ld W (Rect.unit ![0, 768] ![1024, 256] inb_S1024x5632_S1024x256_0_768))
                n
                (View.ld W (Rect.unit ![0, 3584] ![1024, 256] inb_S1024x5632_S1024x256_0_3584))⟩,
            ⟨Rect.unit ![0, 512] ![512, 256] inb_S512x2816_S512x256_0_512,
              k0_pay8
                (k0_pay7 n
                  (View.ld W (Rect.unit ![0, 512] ![1024, 256] inb_S1024x5632_S1024x256_0_512)))
                n
                (View.ld W (Rect.unit ![0, 3328] ![1024, 256] inb_S1024x5632_S1024x256_0_3328))⟩,
            ⟨Rect.unit ![0, 256] ![512, 256] inb_S512x2816_S512x256_0_256,
              k0_pay6 n
                (View.ld W (Rect.unit ![0, 256] ![1024, 256] inb_S1024x5632_S1024x256_0_256))
                n
                (View.ld W (Rect.unit ![0, 3072] ![1024, 256] inb_S1024x5632_S1024x256_0_3072))⟩,
            ⟨Rect.unit ![0, 0] ![512, 256] inb_S512x2816_S512x256_0_0,
              k0_pay5
                (k0_pay3 n
                  (View.ld W (Rect.unit ![0, 2816] ![1024, 256] inb_S1024x5632_S1024x256_0_2816)))
                (k0_pay4 n
                  (View.ld W (Rect.unit ![0, 0] ![1024, 256] inb_S1024x5632_S1024x256_0_0)))⟩]
          (Rect.unit ![0, 0] ![512, 2816] inb_S512x2816_S512x2816_0_0).toLoadRect = actTile n W := by
  rw [View.readCov_eq_canon']
  funext y
  idx_vars y
  have e : (Rect.unit ![0, 0] ![512, 2816] inb_S512x2816_S512x2816_0_0).toLoadRect.idx (ix2 y0 y1) =
      (ix2 y0 y1 : S512x2816.Idx) := by
    funext a
    fin_cases a <;> exact Fin.ext (by simp)
  refine (congrArg _ e).trans ?_
  change _ = actRow 2816 rfl (fun k => n (ix2 y0 k)) (fun k j => W (ix2 k j)) y1
  canon_tiles x h
  all_goals idx_vars x
  all_goals obtain rfl : x0 = y0 := Fin.ext h0.symm
  · exact (chunk10 _ _ _ _ _ _).trans (gated_ld n W 2560 5376 _ _ _ _ _ (by simpa using h1) rfl)
  · exact (chunk9 _ _ _ _ _ _).trans (gated_ld n W 2304 5120 _ _ _ _ _ (by simpa using h1) rfl)
  · exact (chunk8 _ _ _ _ _ _).trans (gated_ld n W 2048 4864 _ _ _ _ _ (by simpa using h1) rfl)
  · exact (chunk7 _ _ _ _ _ _).trans (gated_ld n W 1792 4608 _ _ _ _ _ (by simpa using h1) rfl)
  · exact (chunk6 _ _ _ _ _ _).trans (gated_ld n W 1536 4352 _ _ _ _ _ (by simpa using h1) rfl)
  · exact (chunk5 _ _ _ _ _ _).trans (gated_ld n W 1280 4096 _ _ _ _ _ (by simpa using h1) rfl)
  · exact (chunk4 _ _ _ _ _ _).trans (gated_ld n W 1024 3840 _ _ _ _ _ (by simpa using h1) rfl)
  · exact (chunk3 _ _ _ _ _ _).trans (gated_ld n W 768 3584 _ _ _ _ _ (by simpa using h1) rfl)
  · exact (chunk2 _ _ _ _ _ _).trans (gated_ld n W 512 3328 _ _ _ _ _ (by simpa using h1) rfl)
  · exact (chunk1 _ _ _ _ _ _).trans (gated_ld n W 256 3072 _ _ _ _ _ (by simpa using h1) rfl)
  · exact (chunk0 _ _ _ _ _ _).trans (gated_ld n W 0 2816 _ _ _ _ _ (by simpa using h1) rfl)

/-- A row of the block after the feed-forward step. -/
def hAt (A : Vec Ideal S512x1024 .f32) (G : Vec Ideal S1x1024 .f32) (W : Vec Ideal S1024x5632 .bf16)
    (D : Vec Ideal S2816x1024 .bf16) (P : Vec Ideal S1x1024 .f32) (r : Fin 512) (d : Fin 1024) : EReal :=
  ffnRow (fun k => A (ix2 r k)) (fun k => G (ix2 0 k)) (fun k j => W (ix2 k j)) (fun k j => D (ix2 k j))
    (fun k => P (ix2 0 k)) d

theorem actTile_eq (A : Vec Ideal S512x1024 .f32) (G : Vec Ideal S1x1024 .f32) (W : Vec Ideal S1024x5632 .bf16)
    (r : Fin 512) (c : Fin 2816) : actTile (k0_pay2 (F := Ideal) A G) W (ix2 r c) =
      actRow 2816 rfl (rms (fun k => A (ix2 r k)) (fun k => G (ix2 0 k))) (fun k j => W (ix2 k j)) c := by
  change actRow 2816 rfl (fun k => k0_pay2 (F := Ideal) A G (ix2 r k)) _ c = _
  simp only [pay2]

theorem h_eq (A : Vec Ideal S512x1024 .f32) (G : Vec Ideal S1x1024 .f32) (W : Vec Ideal S1024x5632 .bf16)
    (D : Vec Ideal S2816x1024 .bf16) (P : Vec Ideal S1x1024 .f32) (r : Fin 512) (d : Fin 1024) :
    k0_pay25 (F := Ideal) (actTile (k0_pay2 A G) W) D A P (ix2 r d) = hAt A G W D P r d := by
  rw [pay25]
  unfold hAt ffnRow rowDot
  simp only [actTile_eq]

theorem hAt_eq (A : Vec Ideal S512x1024 .f32) (G : Vec Ideal S1x1024 .f32) (W : Vec Ideal S1024x5632 .bf16)
    (D : Vec Ideal S2816x1024 .bf16) (P : Vec Ideal S1x1024 .f32) :
    hAt A G W D P = fun r d => k0_pay25 (F := Ideal) (actTile (k0_pay2 A G) W) D A P (ix2 r d) :=
  funext fun r => funext fun d => (h_eq _ _ _ _ _ r d).symm

/-- A projected lane. -/
def zAt (H : Fin 512 → Fin 1024 → EReal) (G : Vec Ideal S1x1024 .f32) (W : Vec Ideal S1024x2304 .bf16)
    (B : Vec Ideal S1x2304 .f32) (r : Fin 512) (j : Fin 2304) : EReal :=
  projRow (H r) (fun k => G (ix2 0 k)) (fun k j => W (ix2 k j)) (fun j => B (ix2 0 j)) j

theorem z_eq (H : Vec Ideal S512x1024 .f32) (G : Vec Ideal S1x1024 .f32) (W : Vec Ideal S1024x2304 .bf16)
    (B : Vec Ideal S1x2304 .f32) (o : ℕ)
    (ho : ∀ a, (![0, o] : Fin 2 → Nat) a + S1024x256.size a ≤ S1024x2304.size a)
    (hp : ∀ a, (![0, o] : Fin 2 → Nat) a + S1x256.size a ≤ S1x2304.size a)
    (r : Fin 512) (j : Fin 256) (c : Fin 2304) (hc : c.val = o + j.val) :
    rowDot (k0_pay26 (F := Ideal) H G) (View.ld W (Rect.unit ![0, o] ![1024, 256] ho)) r j +
        View.ld B (Rect.unit ![0, o] ![1, 256] hp) (ix2 0 j) =
      zAt (fun r d => H (ix2 r d)) G W B r c := by
  unfold zAt projRow rowDot
  congr 1
  · refine Finset.sum_congr rfl fun k _ => ?_
    rw [pay26]
    refine congrArg (_ * ·) (View.ld_unit_apply_of _ _ _ _ _ _ fun a => ?_)
    fin_cases a
    · simp
    · simpa using hc
  · refine View.ld_unit_apply_of _ _ _ _ _ _ fun a => ?_
    fin_cases a
    · simp
    · simpa using hc

variable (m : (ℓ : Loc nD τ Cert.Kernel2Ideal.sig) → Buf (Elt Ideal) ℓ)

/-- The rows after the first block. -/
theorem out8 (c : Dev nD) (t : Fin cfg0.N) (r : Fin 512) (d : Fin 1024) : (outsAt0 (F := Ideal) m c t).1 (ix2 r d) =
    hAt (iblk m c 0 t) (iblk m c 1 t) (iblk m c 2 t) (iblk m c 3 t) (iblk m c 4 t) r d := by
  unfold outsAt0
  dsimp only
  frame_open
  simp (disch := decide) only [↓ View.readCov_skip, ↓ View.readCov_cons_toLoadRect, ↓ View.readCov_fill]
  frame_out
  rw [scr]
  exact h_eq _ _ _ _ _ _ _

/-- The second mixer's queries. -/
theorem out9 (c : Dev nD) (t : Fin cfg0.N) (g : Fin 2) (r : Fin 512) (l : Fin 256) : (outsAt0 (F := Ideal) m c t).2.1 (ix4 0 g r l) =
    zAt (hAt (iblk m c 0 t) (iblk m c 1 t) (iblk m c 2 t) (iblk m c 3 t) (iblk m c 4 t)) (iblk m c 5 t) (iblk m c 6 t)
      (iblk m c 7 t) r ⟨768 + (g.val * 256 + l.val), by omega⟩ * Ideal.ofBits .f32 0x3E000000#32 := by
  unfold outsAt0
  dsimp only
  frame_open
  simp (disch := decide) only [↓ View.readCov_skip, ↓ View.readCov_cons_toLoadRect, ↓ View.readCov_fill]
  frame_out
  rw [scr, hAt_eq]
  canon_tiles x h
  all_goals idx_vars x
  all_goals obtain rfl : x0 = 0 := Subsingleton.elim _ _
  all_goals obtain rfl : x1 = 0 := Subsingleton.elim _ _
  all_goals obtain rfl : x2 = r := Fin.ext h2.symm
  all_goals obtain rfl : x3 = l := Fin.ext h3.symm
  · exact (pay34 _ _ _ _ _).trans (congrArg (· * _) (z_eq _ _ _ _ 1024 _ _ _ _ _ (by simp at h1 ⊢; omega)))
  · exact (pay29 _ _ _ _ _).trans (congrArg (· * _) (z_eq _ _ _ _ 768 _ _ _ _ _ (by simp at h1 ⊢; omega)))

/-- The second mixer's keys. -/
theorem out10 (c : Dev nD) (t : Fin cfg0.N) (g : Fin 2) (r : Fin 512) (l : Fin 256) : (outsAt0 (F := Ideal) m c t).2.2.1 (ix4 0 g r l) =
    zAt (hAt (iblk m c 0 t) (iblk m c 1 t) (iblk m c 2 t) (iblk m c 3 t) (iblk m c 4 t)) (iblk m c 5 t) (iblk m c 6 t)
      (iblk m c 7 t) r ⟨1280 + (g.val * 256 + l.val), by omega⟩ := by
  unfold outsAt0
  dsimp only
  frame_open
  simp (disch := decide) only [↓ View.readCov_skip, ↓ View.readCov_cons_toLoadRect, ↓ View.readCov_fill]
  frame_out
  rw [scr, hAt_eq]
  canon_tiles x h
  all_goals idx_vars x
  all_goals obtain rfl : x0 = 0 := Subsingleton.elim _ _
  all_goals obtain rfl : x1 = 0 := Subsingleton.elim _ _
  all_goals obtain rfl : x2 = r := Fin.ext h2.symm
  all_goals obtain rfl : x3 = l := Fin.ext h3.symm
  · exact (pay35 _ _ _ _ _).trans (z_eq _ _ _ _ 1536 _ _ _ _ _ (by simp at h1 ⊢; omega))
  · exact (pay30 _ _ _ _ _).trans (z_eq _ _ _ _ 1280 _ _ _ _ _ (by simp at h1 ⊢; omega))

/-- The second mixer's values. -/
theorem out11 (c : Dev nD) (t : Fin cfg0.N) (g : Fin 2) (r : Fin 512) (l : Fin 256) : (outsAt0 (F := Ideal) m c t).2.2.2.1 (ix4 0 g r l) =
    zAt (hAt (iblk m c 0 t) (iblk m c 1 t) (iblk m c 2 t) (iblk m c 3 t) (iblk m c 4 t)) (iblk m c 5 t) (iblk m c 6 t)
      (iblk m c 7 t) r ⟨1792 + (g.val * 256 + l.val), by omega⟩ := by
  unfold outsAt0
  dsimp only
  frame_open
  simp (disch := decide) only [↓ View.readCov_skip, ↓ View.readCov_cons_toLoadRect, ↓ View.readCov_fill]
  frame_out
  rw [scr, hAt_eq]
  canon_tiles x h
  all_goals idx_vars x
  all_goals obtain rfl : x0 = 0 := Subsingleton.elim _ _
  all_goals obtain rfl : x1 = 0 := Subsingleton.elim _ _
  all_goals obtain rfl : x2 = r := Fin.ext h2.symm
  all_goals obtain rfl : x3 = l := Fin.ext h3.symm
  · exact (pay36 _ _ _ _ _).trans (z_eq _ _ _ _ 2048 _ _ _ _ _ (by simp at h1 ⊢; omega))
  · exact (pay32 _ _ _ _ _).trans (z_eq _ _ _ _ 1792 _ _ _ _ _ (by simp at h1 ⊢; omega))

/-- The first mixer's queries. -/
theorem out12 (c : Dev nD) (t : Fin cfg0.N) (g : Fin 2) (r : Fin 512) (l : Fin 256) : (outsAt0 (F := Ideal) m c t).2.2.2.2.1 (ix4 0 g r l) =
    zAt (hAt (iblk m c 0 t) (iblk m c 1 t) (iblk m c 2 t) (iblk m c 3 t) (iblk m c 4 t)) (iblk m c 5 t) (iblk m c 6 t)
      (iblk m c 7 t) r ⟨g.val * 256 + l.val, by omega⟩ * Ideal.ofBits .f32 0x3E000000#32 := by
  unfold outsAt0
  dsimp only
  frame_open
  simp (disch := decide) only [↓ View.readCov_skip, ↓ View.readCov_cons_toLoadRect, ↓ View.readCov_fill]
  frame_out
  rw [scr, hAt_eq]
  canon_tiles x h
  all_goals idx_vars x
  all_goals obtain rfl : x0 = 0 := Subsingleton.elim _ _
  all_goals obtain rfl : x1 = 0 := Subsingleton.elim _ _
  all_goals obtain rfl : x2 = r := Fin.ext h2.symm
  all_goals obtain rfl : x3 = l := Fin.ext h3.symm
  · exact (pay33 _ _ _ _ _).trans (congrArg (· * _) (z_eq _ _ _ _ 256 _ _ _ _ _ (by simp at h1 ⊢; omega)))
  · exact (pay27 _ _ _ _ _).trans (congrArg (· * _) (z_eq _ _ _ _ 0 _ _ _ _ _ (by simp at h1 ⊢; omega)))

/-- The first mixer's keys and values. -/
theorem out13 (c : Dev nD) (t : Fin cfg0.N) (r : Fin 512) (l : Fin 256) : (outsAt0 (F := Ideal) m c t).2.2.2.2.2 (ix3 0 r l) =
    zAt (hAt (iblk m c 0 t) (iblk m c 1 t) (iblk m c 2 t) (iblk m c 3 t) (iblk m c 4 t)) (iblk m c 5 t) (iblk m c 6 t)
      (iblk m c 7 t) r ⟨512 + l.val, by omega⟩ := by
  unfold outsAt0
  dsimp only
  frame_open
  simp (disch := decide) only [↓ View.readCov_skip, ↓ View.readCov_cons_toLoadRect, ↓ View.readCov_fill]
  frame_out
  rw [scr, hAt_eq]
  exact (pay1 _ _ _ _ _).trans (z_eq _ _ _ _ 512 _ _ _ _ _ rfl)

end Layer.First
-- ==== Proof.FirstIn.lean ====
module

public import proofs.«01_k».proof.Proof.FirstOut
public import Idealize.ShloMosaic.Lib.StableHlo.Run
public import Idealize.ShloMosaic.Lib.Pipeline.Value
public import Idealize.ShloMosaic.Lib.Tactic
public import Idealize.ShloMosaic.Lib.Quiescent
public import Idealize.ShloMosaic.Lib.Pointwise

@[expose] public section

set_option maxRecDepth 16384

noncomputable section

/-!
The first block's result arrays, as functions of the arguments.
-/

namespace Layer.First

open Cert.Kernel2Ideal Cert.Kernel2Ideal.Gen Idealize.ShloMosaic Idealize.ShloMosaic.TcCoe Idealize.SL Idealize.SL.Sem
open scoped BigOperators

variable (m : (ℓ : Loc nD τ Cert.Kernel2Ideal.sig) → Buf (Elt Ideal) ℓ)

theorem V_v0 (c : Dev nD) : V (F := Ideal) m c main_v0 =
    shapeCast S32768x1024 (m ((c : Thread nD τ).loc main_arg0)) shapeCasts_S8x4096x1024_S32768x1024 := by
  unfold_abbrev_sides
  after_results
  rfl

theorem V_v2 (c : Dev nD) : V (F := Ideal) m c main_v2 =
    shapeCast S1x1024 (shapeCast S1024 (m ((c : Thread nD τ).loc main_arg1)) shapeCasts_S1x1024_S1024) shapeCasts_S1024_S1x1024 := by
  unfold_abbrev_sides
  after_results
  rfl

theorem V_v8 (c : Dev nD) : V (F := Ideal) m c main_v8 =
    shapeCast S1x1024 (shapeCast S1024 (m ((c : Thread nD τ).loc main_arg4)) shapeCasts_S1x1024_S1024) shapeCasts_S1024_S1x1024 := by
  unfold_abbrev_sides
  after_results
  rfl

theorem V_v10 (c : Dev nD) : V (F := Ideal) m c main_v10 =
    shapeCast S1x1024 (shapeCast S1024 (m ((c : Thread nD τ).loc main_arg5)) shapeCasts_S1x1024_S1024) shapeCasts_S1024_S1x1024 := by
  unfold_abbrev_sides
  after_results
  rfl

theorem V_v14 (c : Dev nD) : V (F := Ideal) m c main_v14 =
    shapeCast S1x2304 (shapeCast S2304 (m ((c : Thread nD τ).loc main_arg7)) shapeCasts_S1x2304_S2304) shapeCasts_S2304_S1x2304 := by
  unfold_abbrev_sides
  after_results
  rfl

theorem V_v4 (c : Dev nD) : V (F := Ideal) m c main_v4 =
    (truncf (F := Ideal) .bf16 (shapeCast S1024x5632 (m ((c : Thread nD τ).loc main_arg2)) shapeCasts_S1x1024x5632_S1024x5632 : Vec Ideal S1024x5632 .f32) bitsLt_bf16_f32 : Vec Ideal S1024x5632 .bf16) := by
  unfold_abbrev_sides
  after_results
  rfl

theorem V_v6 (c : Dev nD) : V (F := Ideal) m c main_v6 =
    (truncf (F := Ideal) .bf16 (shapeCast S2816x1024 (m ((c : Thread nD τ).loc main_arg3)) shapeCasts_S1x2816x1024_S2816x1024 : Vec Ideal S2816x1024 .f32) bitsLt_bf16_f32 : Vec Ideal S2816x1024 .bf16) := by
  unfold_abbrev_sides
  after_results
  rfl

theorem V_v12 (c : Dev nD) : V (F := Ideal) m c main_v12 =
    (truncf (F := Ideal) .bf16 (shapeCast S1024x2304 (m ((c : Thread nD τ).loc main_arg6)) shapeCasts_S1x1024x2304_S1024x2304 : Vec Ideal S1024x2304 .f32) bitsLt_bf16_f32 : Vec Ideal S1024x2304 .bf16) := by
  unfold_abbrev_sides
  after_results
  rfl

theorem idx0 : ∀ t : Fin cfg0.N, win0_0.index t = ![t.val, 0] := by decide +kernel

theorem idx1 : ∀ t : Fin cfg0.N, win0_1.index t = ![0, 0] := by decide +kernel

theorem idx2 : ∀ t : Fin cfg0.N, win0_2.index t = ![0, 0] := by decide +kernel

theorem idx3 : ∀ t : Fin cfg0.N, win0_3.index t = ![0, 0] := by decide +kernel

theorem idx4 : ∀ t : Fin cfg0.N, win0_4.index t = ![0, 0] := by decide +kernel

theorem idx5 : ∀ t : Fin cfg0.N, win0_5.index t = ![0, 0] := by decide +kernel

theorem idx6 : ∀ t : Fin cfg0.N, win0_6.index t = ![0, 0] := by decide +kernel

theorem idx7 : ∀ t : Fin cfg0.N, win0_7.index t = ![0, 0] := by decide +kernel

theorem idx8 : ∀ t : Fin cfg0.N, win0_8.index t = ![t.val, 0] := by decide +kernel

theorem idx9 : ∀ t : Fin cfg0.N, win0_9.index t = ![t.val / 8, 0, t.val % 8, 0] := by decide +kernel

theorem idx10 : ∀ t : Fin cfg0.N, win0_10.index t = ![t.val / 8, 0, t.val % 8, 0] := by decide +kernel

theorem idx11 : ∀ t : Fin cfg0.N, win0_11.index t = ![t.val / 8, 0, t.val % 8, 0] := by decide +kernel

theorem idx12 : ∀ t : Fin cfg0.N, win0_12.index t = ![t.val / 8, 0, t.val % 8, 0] := by decide +kernel

theorem idx13 : ∀ t : Fin cfg0.N, win0_13.index t = ![t.val / 8, t.val % 8, 0] := by decide +kernel

theorem rd0 (x : Vec Ideal S8x4096x1024 .f32) (t : ℕ) (ht : t < 64) (r : Fin 512) (k : Fin 1024) :
    shapeCast S32768x1024 x shapeCasts_S8x4096x1024_S32768x1024 (ix2 (⟨t * 512 + r.val, by omega⟩ : Fin 32768) k) =
      x (ix3 ⟨t / 8, by omega⟩ ⟨t % 8 * 512 + r.val, by omega⟩ k) := by
  pointwise []
  exact congrArg x (congr (congr (congrArg ix3 (Fin.ext (by simp; omega))) (Fin.ext (by simp; omega))) rfl)

theorem rd_1024_5632 (x : Vec Ideal S1x1024x5632 .f32) (k : Fin 1024) (j : Fin 5632) :
    (truncf (F := Ideal) .bf16 (shapeCast S1024x5632 x shapeCasts_S1x1024x5632_S1024x5632 : Vec Ideal S1024x5632 .f32) bitsLt_bf16_f32 : Vec Ideal S1024x5632 .bf16) (ix2 k j) =
      x (ix3 0 k j) := by
  pointwise []

theorem rd_2816_1024 (x : Vec Ideal S1x2816x1024 .f32) (k : Fin 2816) (j : Fin 1024) :
    (truncf (F := Ideal) .bf16 (shapeCast S2816x1024 x shapeCasts_S1x2816x1024_S2816x1024 : Vec Ideal S2816x1024 .f32) bitsLt_bf16_f32 : Vec Ideal S2816x1024 .bf16) (ix2 k j) =
      x (ix3 0 k j) := by
  pointwise []

theorem rd_1024_2304 (x : Vec Ideal S1x1024x2304 .f32) (k : Fin 1024) (j : Fin 2304) :
    (truncf (F := Ideal) .bf16 (shapeCast S1024x2304 x shapeCasts_S1x1024x2304_S1024x2304 : Vec Ideal S1024x2304 .f32) bitsLt_bf16_f32 : Vec Ideal S1024x2304 .bf16) (ix2 k j) =
      x (ix3 0 k j) := by
  pointwise []

theorem blk0 (c : Dev nD) (t : Fin cfg0.N) (r : Fin 512) (k : Fin 1024) : (iblk (F := Ideal) m c 0 t : Vec Ideal S512x1024 .f32) (ix2 r k) =
    m ((c : Thread nD τ).loc main_arg0) (ix3 ⟨t.val / 8, by have := t.isLt; have : cfg0.N = 64 := rfl; omega⟩ ⟨t.val % 8 * 512 + r.val, by omega⟩ k) := by
  have ht : t.val < 64 := t.isLt
  blk_simp [iblk]
  have e : (win0_0.blk t).view.emb (ix2 r k) = ix2 (⟨t.val * 512 + r.val, by omega⟩ : Fin 32768) k := by blk_ext [idx0]
  change V m c main_v0 _ = _
  rw [e, V_v0]
  exact rd0 _ t.val ht r k

theorem blk1 (c : Dev nD) (t : Fin cfg0.N) (k : Fin 1024) : (iblk (F := Ideal) m c 1 t : Vec Ideal S1x1024 .f32) (ix2 0 k) =
    m ((c : Thread nD τ).loc main_arg1) (ix2 0 k) := by
  blk_simp [iblk]
  have e : (win0_1.blk t).view.emb (ix2 0 k) = ix2 (0 : Fin 1) k := by blk_ext [idx1]
  change V m c main_v2 _ = _
  rw [e, V_v2]
  pointwise []

theorem blk4 (c : Dev nD) (t : Fin cfg0.N) (k : Fin 1024) : (iblk (F := Ideal) m c 4 t : Vec Ideal S1x1024 .f32) (ix2 0 k) =
    m ((c : Thread nD τ).loc main_arg4) (ix2 0 k) := by
  blk_simp [iblk]
  have e : (win0_4.blk t).view.emb (ix2 0 k) = ix2 (0 : Fin 1) k := by blk_ext [idx4]
  change V m c main_v8 _ = _
  rw [e, V_v8]
  pointwise []

theorem blk5 (c : Dev nD) (t : Fin cfg0.N) (k : Fin 1024) : (iblk (F := Ideal) m c 5 t : Vec Ideal S1x1024 .f32) (ix2 0 k) =
    m ((c : Thread nD τ).loc main_arg5) (ix2 0 k) := by
  blk_simp [iblk]
  have e : (win0_5.blk t).view.emb (ix2 0 k) = ix2 (0 : Fin 1) k := by blk_ext [idx5]
  change V m c main_v10 _ = _
  rw [e, V_v10]
  pointwise []

theorem blk7 (c : Dev nD) (t : Fin cfg0.N) (k : Fin 2304) : (iblk (F := Ideal) m c 7 t : Vec Ideal S1x2304 .f32) (ix2 0 k) =
    m ((c : Thread nD τ).loc main_arg7) (ix2 0 k) := by
  blk_simp [iblk]
  have e : (win0_7.blk t).view.emb (ix2 0 k) = ix2 (0 : Fin 1) k := by blk_ext [idx7]
  change V m c main_v14 _ = _
  rw [e, V_v14]
  pointwise []

theorem blk2 (c : Dev nD) (t : Fin cfg0.N) (k : Fin 1024) (j : Fin 5632) : (iblk (F := Ideal) m c 2 t : Vec Ideal S1024x5632 .bf16) (ix2 k j) =
    m ((c : Thread nD τ).loc main_arg2) (ix3 0 k j) := by
  blk_simp [iblk]
  have e : (win0_2.blk t).view.emb (ix2 k j) = ix2 k j := by blk_ext [idx2]
  change V m c main_v4 _ = _
  rw [e, V_v4]
  exact rd_1024_5632 _ k j

theorem blk3 (c : Dev nD) (t : Fin cfg0.N) (k : Fin 2816) (j : Fin 1024) : (iblk (F := Ideal) m c 3 t : Vec Ideal S2816x1024 .bf16) (ix2 k j) =
    m ((c : Thread nD τ).loc main_arg3) (ix3 0 k j) := by
  blk_simp [iblk]
  have e : (win0_3.blk t).view.emb (ix2 k j) = ix2 k j := by blk_ext [idx3]
  change V m c main_v6 _ = _
  rw [e, V_v6]
  exact rd_2816_1024 _ k j

theorem blk6 (c : Dev nD) (t : Fin cfg0.N) (k : Fin 1024) (j : Fin 2304) : (iblk (F := Ideal) m c 6 t : Vec Ideal S1024x2304 .bf16) (ix2 k j) =
    m ((c : Thread nD τ).loc main_arg6) (ix3 0 k j) := by
  blk_simp [iblk]
  have e : (win0_6.blk t).view.emb (ix2 k j) = ix2 k j := by blk_ext [idx6]
  change V m c main_v12 _ = _
  rw [e, V_v12]
  exact rd_1024_2304 _ k j

end Layer.First
-- ==== Proof.FirstArr.lean ====
module

public import proofs.«01_k».proof.Proof.FirstIn

@[expose] public section

set_option maxRecDepth 16384

noncomputable section

/-!
The first block's result arrays, as functions of the arguments.
-/

namespace Layer.First

open Cert.Kernel2Ideal Cert.Kernel2Ideal.Gen Idealize.ShloMosaic Idealize.ShloMosaic.TcCoe Idealize.SL Idealize.SL.Sem
open scoped BigOperators

variable (m : (ℓ : Loc nD τ Cert.Kernel2Ideal.sig) → Buf (Elt Ideal) ℓ)

/-- A token's row after the first block. -/
def hVal (c : Dev nD) (b : Fin 8) (s : Fin 4096) : Fin 1024 → EReal :=
  ffnRow (fun k => m ((c : Thread nD τ).loc main_arg0) (ix3 b s k)) (fun k => m ((c : Thread nD τ).loc main_arg1) (ix2 0 k))
    (fun k j => m ((c : Thread nD τ).loc main_arg2) (ix3 0 k j)) (fun k j => m ((c : Thread nD τ).loc main_arg3) (ix3 0 k j))
    (fun k => m ((c : Thread nD τ).loc main_arg4) (ix2 0 k))

/-- A token's projected lanes. -/
def zVal (c : Dev nD) (b : Fin 8) (s : Fin 4096) : Fin 2304 → EReal :=
  projRow (hVal m c b s) (fun k => m ((c : Thread nD τ).loc main_arg5) (ix2 0 k))
    (fun k j => m ((c : Thread nD τ).loc main_arg6) (ix3 0 k j)) (fun k => m ((c : Thread nD τ).loc main_arg7) (ix2 0 k))

theorem ffnRow_congr {x x' g g' p p' : Fin 1024 → EReal} {w w' : Fin 1024 → Fin 5632 → EReal}
    {v v' : Fin 2816 → Fin 1024 → EReal} (hx : ∀ k, x k = x' k) (hg : ∀ k, g k = g' k) (hw : ∀ k j, w k j = w' k j)
    (hv : ∀ k j, v k j = v' k j) (hp : ∀ k, p k = p' k) (d : Fin 1024) : ffnRow x g w v p d = ffnRow x' g' w' v' p' d := by
  obtain rfl : x = x' := funext hx
  obtain rfl : g = g' := funext hg
  obtain rfl : w = w' := funext fun k => funext (hw k)
  obtain rfl : v = v' := funext fun k => funext (hv k)
  obtain rfl : p = p' := funext hp
  rfl

theorem projRow_congr {n : ℕ} {h h' g g' : Fin 1024 → EReal} {w w' : Fin 1024 → Fin n → EReal} {b b' : Fin n → EReal}
    (hh : ∀ k, h k = h' k) (hg : ∀ k, g k = g' k) (hw : ∀ k j, w k j = w' k j) (hb : ∀ k, b k = b' k) (j : Fin n) :
    projRow h g w b j = projRow h' g' w' b' j := by
  obtain rfl : h = h' := funext hh
  obtain rfl : g = g' := funext hg
  obtain rfl : w = w' := funext fun k => funext (hw k)
  obtain rfl : b = b' := funext hb
  rfl

theorem hAt_val (c : Dev nD) (t : Fin cfg0.N) (r : Fin 512) (d : Fin 1024) :
    hAt (iblk m c 0 t) (iblk m c 1 t) (iblk m c 2 t) (iblk m c 3 t) (iblk m c 4 t) r d =
      hVal m c ⟨t.val / 8, by have := t.isLt; have : cfg0.N = 64 := rfl; omega⟩ ⟨t.val % 8 * 512 + r.val, by omega⟩ d := by
  exact ffnRow_congr (blk0 m c t r) (blk1 m c t) (blk2 m c t) (blk3 m c t) (blk4 m c t) d

theorem zAt_val (c : Dev nD) (t : Fin cfg0.N) (r : Fin 512) (j : Fin 2304) :
    zAt (hAt (iblk m c 0 t) (iblk m c 1 t) (iblk m c 2 t) (iblk m c 3 t) (iblk m c 4 t)) (iblk m c 5 t) (iblk m c 6 t)
      (iblk m c 7 t) r j =
      zVal m c ⟨t.val / 8, by have := t.isLt; have : cfg0.N = 64 := rfl; omega⟩ ⟨t.val % 8 * 512 + r.val, by omega⟩ j := by
  exact projRow_congr (hAt_val m c t r) (blk5 m c t) (blk6 m c t) (blk7 m c t) j

/-- The rows after the first block. -/
def hArr (c : Dev nD) : Vec Ideal S32768x1024 .f32 := fun y => hVal m c ⟨(y 0).val / 4096, by have : (y 0).val < 32768 := (y 0).isLt; omega⟩ ⟨(y 0).val % 4096, by omega⟩ (y 1)

theorem final8 (c : Dev nD) : (dats (F := Ideal) m 0 c).arrAt 8 cfg0.N = hArr m c := by
  refine (dats m 0 c).arrAt_eq_of_covers 8 _ (by decide +kernel) fun t hf y => ?_
  have ht : t.val < 64 := t.isLt
  blk_simp
  rw [after0_8]
  idx_vars y
  have e : (win0_8.blk t).view.emb (ix2 y0 y1) = ix2 (⟨t.val * 512 + y0.val, by omega⟩ : Fin 32768) y1 := by blk_ext [idx8]
  refine (out8 m c t y0 y1).trans (Eq.trans ?_ (congrArg (hArr m c) e).symm)
  rw [hAt_val]
  unfold hArr
  dsimp only [ix2]
  exact congrFun (congrArg₂ (hVal m c) (Fin.ext (by dsimp only; omega)) (Fin.ext (by dsimp only; omega))) y1

/-- The second mixer's queries. -/
def qbArr (c : Dev nD) : Vec Ideal S8x2x4096x256 .bf16 := fun y => zVal m c (y 0) (y 2) ⟨768 + ((y 1).val * 256 + (y 3).val), by have : (y 1).val < 2 := (y 1).isLt; have : (y 3).val < 256 := (y 3).isLt; omega⟩ * Ideal.ofBits .f32 0x3E000000#32

theorem final9 (c : Dev nD) : (dats (F := Ideal) m 0 c).arrAt 9 cfg0.N = qbArr m c := by
  refine (dats m 0 c).arrAt_eq_of_covers 9 _ (by decide +kernel) fun t hf y => ?_
  have ht : t.val < 64 := t.isLt
  blk_simp
  rw [after0_9]
  idx_vars y
  obtain rfl : y0 = 0 := Subsingleton.elim _ _
  have e : (win0_9.blk t).view.emb (ix4 0 y1 y2 y3) = ix4 (⟨t.val / 8, by omega⟩ : Fin 8) y1 (⟨t.val % 8 * 512 + y2.val, by omega⟩ : Fin 4096) y3 := by blk_ext [idx9]
  refine (out9 m c t y1 y2 y3).trans (Eq.trans ?_ (congrArg (qbArr m c) e).symm)
  rw [zAt_val]
  unfold qbArr
  dsimp only [ix2, ix3, ix4]

/-- The second mixer's keys. -/
def kbArr (c : Dev nD) : Vec Ideal S8x2x4096x256 .bf16 := fun y => zVal m c (y 0) (y 2) ⟨1280 + ((y 1).val * 256 + (y 3).val), by have : (y 1).val < 2 := (y 1).isLt; have : (y 3).val < 256 := (y 3).isLt; omega⟩

theorem final10 (c : Dev nD) : (dats (F := Ideal) m 0 c).arrAt 10 cfg0.N = kbArr m c := by
  refine (dats m 0 c).arrAt_eq_of_covers 10 _ (by decide +kernel) fun t hf y => ?_
  have ht : t.val < 64 := t.isLt
  blk_simp
  rw [after0_10]
  idx_vars y
  obtain rfl : y0 = 0 := Subsingleton.elim _ _
  have e : (win0_10.blk t).view.emb (ix4 0 y1 y2 y3) = ix4 (⟨t.val / 8, by omega⟩ : Fin 8) y1 (⟨t.val % 8 * 512 + y2.val, by omega⟩ : Fin 4096) y3 := by blk_ext [idx10]
  refine (out10 m c t y1 y2 y3).trans (Eq.trans ?_ (congrArg (kbArr m c) e).symm)
  rw [zAt_val]
  unfold kbArr
  dsimp only [ix2, ix3, ix4]

/-- The second mixer's values. -/
def vbArr (c : Dev nD) : Vec Ideal S8x2x4096x256 .bf16 := fun y => zVal m c (y 0) (y 2) ⟨1792 + ((y 1).val * 256 + (y 3).val), by have : (y 1).val < 2 := (y 1).isLt; have : (y 3).val < 256 := (y 3).isLt; omega⟩

theorem final11 (c : Dev nD) : (dats (F := Ideal) m 0 c).arrAt 11 cfg0.N = vbArr m c := by
  refine (dats m 0 c).arrAt_eq_of_covers 11 _ (by decide +kernel) fun t hf y => ?_
  have ht : t.val < 64 := t.isLt
  blk_simp
  rw [after0_11]
  idx_vars y
  obtain rfl : y0 = 0 := Subsingleton.elim _ _
  have e : (win0_11.blk t).view.emb (ix4 0 y1 y2 y3) = ix4 (⟨t.val / 8, by omega⟩ : Fin 8) y1 (⟨t.val % 8 * 512 + y2.val, by omega⟩ : Fin 4096) y3 := by blk_ext [idx11]
  refine (out11 m c t y1 y2 y3).trans (Eq.trans ?_ (congrArg (vbArr m c) e).symm)
  rw [zAt_val]
  unfold vbArr
  dsimp only [ix2, ix3, ix4]

/-- The first mixer's queries. -/
def qaArr (c : Dev nD) : Vec Ideal S8x2x4096x256 .bf16 := fun y => zVal m c (y 0) (y 2) ⟨((y 1).val * 256 + (y 3).val), by have : (y 1).val < 2 := (y 1).isLt; have : (y 3).val < 256 := (y 3).isLt; omega⟩ * Ideal.ofBits .f32 0x3E000000#32

theorem final12 (c : Dev nD) : (dats (F := Ideal) m 0 c).arrAt 12 cfg0.N = qaArr m c := by
  refine (dats m 0 c).arrAt_eq_of_covers 12 _ (by decide +kernel) fun t hf y => ?_
  have ht : t.val < 64 := t.isLt
  blk_simp
  rw [after0_12]
  idx_vars y
  obtain rfl : y0 = 0 := Subsingleton.elim _ _
  have e : (win0_12.blk t).view.emb (ix4 0 y1 y2 y3) = ix4 (⟨t.val / 8, by omega⟩ : Fin 8) y1 (⟨t.val % 8 * 512 + y2.val, by omega⟩ : Fin 4096) y3 := by blk_ext [idx12]
  refine (out12 m c t y1 y2 y3).trans (Eq.trans ?_ (congrArg (qaArr m c) e).symm)
  rw [zAt_val]
  unfold qaArr
  dsimp only [ix2, ix3, ix4]

/-- The first mixer's keys and values. -/
def kvArr (c : Dev nD) : Vec Ideal S8x4096x256 .bf16 := fun y => zVal m c (y 0) (y 1) ⟨512 + (y 2).val, by have : (y 2).val < 256 := (y 2).isLt; omega⟩

theorem final13 (c : Dev nD) : (dats (F := Ideal) m 0 c).arrAt 13 cfg0.N = kvArr m c := by
  refine (dats m 0 c).arrAt_eq_of_covers 13 _ (by decide +kernel) fun t hf y => ?_
  have ht : t.val < 64 := t.isLt
  blk_simp
  rw [after0_13]
  idx_vars y
  obtain rfl : y0 = 0 := Subsingleton.elim _ _
  have e : (win0_13.blk t).view.emb (ix3 0 y1 y2) = ix3 (⟨t.val / 8, by omega⟩ : Fin 8) (⟨t.val % 8 * 512 + y1.val, by omega⟩ : Fin 4096) y2 := by blk_ext [idx13]
  refine (out13 m c t y1 y2).trans (Eq.trans ?_ (congrArg (kvArr m c) e).symm)
  rw [zAt_val]
  unfold kvArr
  dsimp only [ix2, ix3, ix4]

end Layer.First
-- ==== Proof.RefFfn.lean ====
module

public import proofs.«01_k».proof.Proof.Soft
public import proofs.«01_k».proof.Proof.Gen.Reference2Ideal.Read
public import Idealize.ShloMosaic.Lib.Pointwise

@[expose] public section

set_option maxRecDepth 16384

noncomputable section

/-!
The reference's first feed-forward block and projection read at an index, one row at a time.
-/

namespace Layer.FirstRef

open Cert.Reference2Ideal Cert.Reference2Ideal.Gen Cert.Reference2Ideal.Read Idealize.ShloMosaic
open scoped BigOperators

variable (x0 : (⟨S8x4096x1024, .f32⟩ : BufTy).Contents (Elt Ideal))
  (x1 : (⟨S1x1024, .f32⟩ : BufTy).Contents (Elt Ideal))
  (x2 : (⟨S1x1024x5632, .f32⟩ : BufTy).Contents (Elt Ideal))
  (x3 : (⟨S1x2816x1024, .f32⟩ : BufTy).Contents (Elt Ideal))
  (x4 : (⟨S1x1024, .f32⟩ : BufTy).Contents (Elt Ideal))
  (x5 : (⟨S1x1024, .f32⟩ : BufTy).Contents (Elt Ideal))
  (x6 : (⟨S1x1024x2304, .f32⟩ : BufTy).Contents (Elt Ideal))
  (x7 : (⟨S1x2304, .f32⟩ : BufTy).Contents (Elt Ideal))

/-- A normalised row. -/
theorem norm1 (b : Fin 8) (s : Fin 4096) (d : Fin 1024) :
    val_main_v13 (F := Ideal) x0 x1 (ix3 b s d) =
      rms (fun k => x0 (ix3 b s k)) (fun k => x1 (ix2 0 k)) d := by
  pointwise [val_main_v0, val_main_v1, val_main_cst, val_main_v2, val_main_v3, val_main_cst_0, val_main_v4,
    val_main_v5, val_main_cst_1, val_main_v6, val_main_v7, val_main_v8, val_main_v9, val_main_v10,
    val_main_v11, val_main_v12, val_main_v13]
  rfl

/-- The gated activations. -/
theorem act1 (b : Fin 8) (s : Fin 4096) (c : Fin 2816) :
    val_main_v26 (F := Ideal) x0 x1 x2 (ix3 b s c) =
      actRow 2816 rfl (fun k => val_main_v13 (F := Ideal) x0 x1 (ix3 b s k)) (fun k j => x2 (ix3 0 k j)) c := by
  pointwise [val_main_v14, val_main_v16, val_main_v17, val_main_v18, val_main_v19, val_main_v20, val_main_cst_2,
    val_main_v21, val_main_v22, val_main_cst_3, val_main_v23, val_main_v24, val_main_v25, val_main_v26]
  rfl

/-- The block's output. -/
theorem ff1 (b : Fin 8) (s : Fin 4096) (d : Fin 1024) :
    val_main_v27 (F := Ideal) x0 x1 x2 x3 (ix3 b s d) =
      ∑ c : Fin 2816, val_main_v26 (F := Ideal) x0 x1 x2 (ix3 b s c) * x3 (ix3 0 c d) := by
  pointwise [val_main_v27, val_main_v15]

/-- A normalised row. -/
theorem norm2 (b : Fin 8) (s : Fin 4096) (d : Fin 1024) :
    val_main_v41 (F := Ideal) x0 x1 x2 x3 x4 (ix3 b s d) =
      rms (fun k => val_main_v27 (F := Ideal) x0 x1 x2 x3 (ix3 b s k)) (fun k => x4 (ix2 0 k)) d := by
  pointwise [val_main_v28, val_main_v29, val_main_cst_4, val_main_v30, val_main_v31, val_main_cst_5, val_main_v32,
    val_main_v33, val_main_cst_6, val_main_v34, val_main_v35, val_main_v36, val_main_v37, val_main_v38,
    val_main_v39, val_main_v40, val_main_v41]
  rfl

/-- The row after the first block. -/
theorem h1 (b : Fin 8) (s : Fin 4096) (d : Fin 1024) :
    val_main_v44 (F := Ideal) x0 x1 x2 x3 x4 (ix3 b s d) =
      ffnRow (fun k => x0 (ix3 b s k)) (fun k => x1 (ix2 0 k)) (fun k j => x2 (ix3 0 k j)) (fun k j => x3 (ix3 0 k j)) (fun k => x4 (ix2 0 k)) d := by
  pointwise [val_main_cst_7, val_main_v42, val_main_v43, val_main_v44]
  rw [norm2]
  simp only [ff1, act1, norm1]
  rfl

/-- A normalised row. -/
theorem norm3 (b : Fin 8) (s : Fin 4096) (d : Fin 1024) :
    val_main_v58 (F := Ideal) x0 x1 x2 x3 x4 x5 (ix3 b s d) =
      rms (fun k => val_main_v44 (F := Ideal) x0 x1 x2 x3 x4 (ix3 b s k)) (fun k => x5 (ix2 0 k)) d := by
  pointwise [val_main_v45, val_main_v46, val_main_cst_8, val_main_v47, val_main_v48, val_main_cst_9, val_main_v49,
    val_main_v50, val_main_cst_10, val_main_v51, val_main_v52, val_main_v53, val_main_v54, val_main_v55,
    val_main_v56, val_main_v57, val_main_v58]
  rfl

/-- The projected row. -/
theorem z (b : Fin 8) (s : Fin 4096) (d : Fin 2304) :
    val_main_v64 (F := Ideal) x0 x1 x2 x3 x4 x5 x6 x7 (ix3 b s d) =
      projRow (fun k => val_main_v44 (F := Ideal) x0 x1 x2 x3 x4 (ix3 b s k)) (fun k => x5 (ix2 0 k)) (fun k j => x6 (ix3 0 k j)) (fun k => x7 (ix2 0 k)) d := by
  pointwise [val_main_v59, val_main_v60, val_main_v61, val_main_v62, val_main_v63, val_main_v64]
  simp only [norm3]
  rfl

/-- The rows after the first block, one after another. -/
theorem hFlat (t : Fin 32768) (d : Fin 1024) :
    val_main_v70 (F := Ideal) x0 x1 x2 x3 x4 (ix2 t d) =
      val_main_v44 (F := Ideal) x0 x1 x2 x3 x4 (ix3 ⟨t / 4096, by omega⟩ ⟨t % 4096, by omega⟩ d) := by
  pointwise [val_main_v70]

/-- The second mixer's queries. -/
theorem v75 (b : Fin 8) (g : Fin 2) (s : Fin 4096) (l : Fin 256) :
    val_main_v75 (F := Ideal) x0 x1 x2 x3 x4 x5 x6 x7 (ix4 b g s l) =
      val_main_v64 (F := Ideal) x0 x1 x2 x3 x4 x5 x6 x7 (ix3 b s ⟨768 + (g * 256 + l), by omega⟩) * Ideal.ofBits .f32 0x3E000000#32 := by
  pointwise [val_main_v67, val_main_cst_11, val_main_v71, val_main_v72, val_main_v73, val_main_v74, val_main_v75]

/-- The second mixer's keys. -/
theorem v78 (b : Fin 8) (g : Fin 2) (s : Fin 4096) (l : Fin 256) :
    val_main_v78 (F := Ideal) x0 x1 x2 x3 x4 x5 x6 x7 (ix4 b g s l) =
      val_main_v64 (F := Ideal) x0 x1 x2 x3 x4 x5 x6 x7 (ix3 b s ⟨1280 + (g * 256 + l), by omega⟩) := by
  pointwise [val_main_v68, val_main_v76, val_main_v77, val_main_v78]

/-- The second mixer's values. -/
theorem v81 (b : Fin 8) (g : Fin 2) (s : Fin 4096) (l : Fin 256) :
    val_main_v81 (F := Ideal) x0 x1 x2 x3 x4 x5 x6 x7 (ix4 b g s l) =
      val_main_v64 (F := Ideal) x0 x1 x2 x3 x4 x5 x6 x7 (ix3 b s ⟨1792 + (g * 256 + l), by omega⟩) := by
  pointwise [val_main_v69, val_main_v79, val_main_v80, val_main_v81]

/-- The first mixer's queries. -/
theorem v86 (b : Fin 8) (g : Fin 2) (s : Fin 4096) (l : Fin 256) :
    val_main_v86 (F := Ideal) x0 x1 x2 x3 x4 x5 x6 x7 (ix4 b g s l) =
      val_main_v64 (F := Ideal) x0 x1 x2 x3 x4 x5 x6 x7 (ix3 b s ⟨g * 256 + l, by omega⟩) * Ideal.ofBits .f32 0x3E000000#32 := by
  pointwise [val_main_v65, val_main_cst_12, val_main_v82, val_main_v83, val_main_v84, val_main_v85, val_main_v86]

/-- The first mixer's keys and values. -/
theorem v87 (b : Fin 8) (s : Fin 4096) (l : Fin 256) :
    val_main_v87 (F := Ideal) x0 x1 x2 x3 x4 x5 x6 x7 (ix3 b s l) =
      val_main_v64 (F := Ideal) x0 x1 x2 x3 x4 x5 x6 x7 (ix3 b s ⟨512 + l, by omega⟩) := by
  pointwise [val_main_v66, val_main_v87]

end Layer.FirstRef
-- ==== Proof.FirstClaim.lean ====
module

public import proofs.«01_k».proof.Proof.FirstArr
public import proofs.«01_k».proof.Proof.RefFfn
public import proofs.«01_k».proof.Defs

@[expose] public section

set_option maxRecDepth 16384

noncomputable section

/-!
The first block: kernel and reference end with equal results.
-/

namespace Layer.First

open Cert.Kernel2Ideal Cert.Kernel2Ideal.Gen Idealize.ShloMosaic Idealize.ShloMosaic.TcCoe Idealize.SL Idealize.SL.Sem
open Cert.Reference2Ideal.Read
open scoped BigOperators

variable (m : (ℓ : Loc nD τ Cert.Kernel2Ideal.sig) → Buf (Elt Ideal) ℓ)

variable (x0 : (⟨S8x4096x1024, .f32⟩ : BufTy).Contents (Elt Ideal))
  (x1 : (⟨S1x1024, .f32⟩ : BufTy).Contents (Elt Ideal))
  (x2 : (⟨S1x1024x5632, .f32⟩ : BufTy).Contents (Elt Ideal))
  (x3 : (⟨S1x2816x1024, .f32⟩ : BufTy).Contents (Elt Ideal))
  (x4 : (⟨S1x1024, .f32⟩ : BufTy).Contents (Elt Ideal))
  (x5 : (⟨S1x1024, .f32⟩ : BufTy).Contents (Elt Ideal))
  (x6 : (⟨S1x1024x2304, .f32⟩ : BufTy).Contents (Elt Ideal))
  (x7 : (⟨S1x2304, .f32⟩ : BufTy).Contents (Elt Ideal))

/-- A token's row after the first block, from the arrays. -/
def hOf (b : Fin 8) (s : Fin 4096) : Fin 1024 → EReal :=
  ffnRow (fun k => x0 (ix3 b s k)) (fun k => x1 (ix2 0 k)) (fun k j => x2 (ix3 0 k j)) (fun k j => x3 (ix3 0 k j))
    (fun k => x4 (ix2 0 k))

/-- A token's projected lanes, from the arrays. -/
def zOf (b : Fin 8) (s : Fin 4096) : Fin 2304 → EReal :=
  projRow (hOf x0 x1 x2 x3 x4 b s) (fun k => x5 (ix2 0 k)) (fun k j => x6 (ix3 0 k j)) (fun k => x7 (ix2 0 k))

theorem z_ref (b : Fin 8) (s : Fin 4096) (j : Fin 2304) :
    val_main_v64 (F := Ideal) x0 x1 x2 x3 x4 x5 x6 x7 (ix3 b s j) = zOf x0 x1 x2 x3 x4 x5 x6 x7 b s j := by
  rw [FirstRef.z]
  exact projRow_congr (FirstRef.h1 x0 x1 x2 x3 x4 b s) (fun _ => rfl) (fun _ _ => rfl) (fun _ => rfl) j

variable (m' : (ℓ : Loc Cert.Reference2Ideal.nD Cert.Reference2Ideal.τ Cert.Reference2Ideal.sig) → Buf (Elt Ideal) ℓ)

/-- The two programs' arguments agree. -/
def Agree : Prop := ∀ c : Dev nD,
  m' ((c.tc : Thread Cert.Reference2Ideal.nD Cert.Reference2Ideal.τ).loc Cert.Reference2Ideal.main_arg0) = m ((c.tc : Thread nD τ).loc main_arg0)
  ∧ m' ((c.tc : Thread Cert.Reference2Ideal.nD Cert.Reference2Ideal.τ).loc Cert.Reference2Ideal.main_arg1) = m ((c.tc : Thread nD τ).loc main_arg1)
  ∧ m' ((c.tc : Thread Cert.Reference2Ideal.nD Cert.Reference2Ideal.τ).loc Cert.Reference2Ideal.main_arg2) = m ((c.tc : Thread nD τ).loc main_arg2)
  ∧ m' ((c.tc : Thread Cert.Reference2Ideal.nD Cert.Reference2Ideal.τ).loc Cert.Reference2Ideal.main_arg3) = m ((c.tc : Thread nD τ).loc main_arg3)
  ∧ m' ((c.tc : Thread Cert.Reference2Ideal.nD Cert.Reference2Ideal.τ).loc Cert.Reference2Ideal.main_arg4) = m ((c.tc : Thread nD τ).loc main_arg4)
  ∧ m' ((c.tc : Thread Cert.Reference2Ideal.nD Cert.Reference2Ideal.τ).loc Cert.Reference2Ideal.main_arg5) = m ((c.tc : Thread nD τ).loc main_arg5)
  ∧ m' ((c.tc : Thread Cert.Reference2Ideal.nD Cert.Reference2Ideal.τ).loc Cert.Reference2Ideal.main_arg6) = m ((c.tc : Thread nD τ).loc main_arg6)
  ∧ m' ((c.tc : Thread Cert.Reference2Ideal.nD Cert.Reference2Ideal.τ).loc Cert.Reference2Ideal.main_arg7) = m ((c.tc : Thread nD τ).loc main_arg7)

theorem hOf_eq (h : Agree m m') (c : Dev nD) (b : Fin 8) (s : Fin 4096) :
    hOf (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) b s =
    hVal m c b s := by
  obtain ⟨e0, e1, e2, e3, e4, -⟩ := h c
  rw [e0, e1, e2, e3, e4]
  rfl

theorem zOf_eq (h : Agree m m') (c : Dev nD) (b : Fin 8) (s : Fin 4096) :
    zOf (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7)) b s =
    zVal m c b s := by
  obtain ⟨e0, e1, e2, e3, e4, e5, e6, e7⟩ := h c
  rw [e0, e1, e2, e3, e4, e5, e6, e7]
  rfl

theorem ref70 (h : Agree m m') (c : Dev nD) : Cert.Reference2Ideal.Value.res_main_v70 (F := Ideal) m' c = hArr m c := by
  refine (val_main_v70_eq m' c).trans ?_
  funext y
  idx_vars y
  refine (FirstRef.hFlat _ _ _ _ _ y0 y1).trans ?_
  refine (FirstRef.h1 _ _ _ _ _ _ _ _).trans ?_
  exact congrFun (hOf_eq m m' h c _ _) _

theorem ref75 (h : Agree m m') (c : Dev nD) : Cert.Reference2Ideal.Value.res_main_v75 (F := Ideal) m' c = qbArr m c := by
  refine (val_main_v75_eq m' c).trans ?_
  funext y
  idx_vars y
  refine (FirstRef.v75 _ _ _ _ _ _ _ _ y0 y1 y2 y3).trans ?_
  exact congrArg (· * _) ((z_ref _ _ _ _ _ _ _ _ _ _ _).trans (congrFun (zOf_eq m m' h c _ _) _))

theorem ref78 (h : Agree m m') (c : Dev nD) : Cert.Reference2Ideal.Value.res_main_v78 (F := Ideal) m' c = kbArr m c := by
  refine (val_main_v78_eq m' c).trans ?_
  funext y
  idx_vars y
  refine (FirstRef.v78 _ _ _ _ _ _ _ _ y0 y1 y2 y3).trans ?_
  exact (z_ref _ _ _ _ _ _ _ _ _ _ _).trans (congrFun (zOf_eq m m' h c _ _) _)

theorem ref81 (h : Agree m m') (c : Dev nD) : Cert.Reference2Ideal.Value.res_main_v81 (F := Ideal) m' c = vbArr m c := by
  refine (val_main_v81_eq m' c).trans ?_
  funext y
  idx_vars y
  refine (FirstRef.v81 _ _ _ _ _ _ _ _ y0 y1 y2 y3).trans ?_
  exact (z_ref _ _ _ _ _ _ _ _ _ _ _).trans (congrFun (zOf_eq m m' h c _ _) _)

theorem ref86 (h : Agree m m') (c : Dev nD) : Cert.Reference2Ideal.Value.res_main_v86 (F := Ideal) m' c = qaArr m c := by
  refine (val_main_v86_eq m' c).trans ?_
  funext y
  idx_vars y
  refine (FirstRef.v86 _ _ _ _ _ _ _ _ y0 y1 y2 y3).trans ?_
  exact congrArg (· * _) ((z_ref _ _ _ _ _ _ _ _ _ _ _).trans (congrFun (zOf_eq m m' h c _ _) _))

theorem ref87 (h : Agree m m') (c : Dev nD) : Cert.Reference2Ideal.Value.res_main_v87 (F := Ideal) m' c = kvArr m c := by
  refine (val_main_v87_eq m' c).trans ?_
  funext y
  idx_vars y
  refine (FirstRef.v87 _ _ _ _ _ _ _ _ y0 y1 y2).trans ?_
  exact (z_ref _ _ _ _ _ _ _ _ _ _ _).trans (congrFun (zOf_eq m m' h c _ _) _)

theorem algebraic : Cert.algebraic_Kernel2Ideal_Reference2Ideal
    (hKernel2Ideal := Cert.Kernel2Ideal.Gen.facts) (hReference2Ideal := Cert.Reference2Ideal.Gen.facts) := by
  intro m g m' g' _ hargs
  refine ⟨hArr m, qbArr m, kbArr m, vbArr m, qaArr m, kvArr m, ?_, ?_⟩
  · refine (θ_run _ _ _).mono (fun r h c => ?_) (θ_run_and (run_main (F := Ideal) m g) (unchanged (F := Ideal) m g))
    exact ⟨((h.1 c).1 8).trans (final8 m c), ((h.1 c).1 9).trans (final9 m c), ((h.1 c).1 10).trans (final10 m c),
      ((h.1 c).1 11).trans (final11 m c), ((h.1 c).1 12).trans (final12 m c), ((h.1 c).1 13).trans (final13 m c), h.2 c⟩
  · refine (θ_run _ _ _).mono (fun r h c => ?_) (Cert.Reference2Ideal.Value.run (F := Ideal) m' g')
    obtain ⟨h0, h1, h2, h3, h4, h5, rest⟩ := h c
    exact ⟨h0.trans (ref70 m m' hargs c), h1.trans (ref75 m m' hargs c), h2.trans (ref78 m m' hargs c),
      h3.trans (ref81 m m' hargs c), h4.trans (ref86 m m' hargs c), h5.trans (ref87 m m' hargs c), rest⟩

end Layer.First
-- ==== Proof.LastPay.lean ====
module

public import proofs.«01_k».proof.Proof.Soft
public import proofs.«01_k».proof.Proof.Gen.Kernel3Ideal.Skeleton
public import Idealize.ShloMosaic.Lib.Pointwise

@[expose] public section

set_option maxRecDepth 16384

noncomputable section

/-!
The values that the last stage's kernel stores, read at an index.
-/

namespace Layer.Last

open Cert.Kernel3Ideal Cert.Kernel3Ideal.Gen Idealize.ShloMosaic
open scoped BigOperators

/-- Three windows' outputs, weighed by their log-sum-exps. -/
def merged (l1 l2 l3 o1 o2 o3 : EReal) : EReal :=
  Ideal.div (Ideal.exp (l1 - max (max l1 l2) l3) * o1 + Ideal.exp (l2 - max (max l1 l2) l3) * o2 +
      Ideal.exp (l3 - max (max l1 l2) l3) * o3)
    (Ideal.exp (l1 - max (max l1 l2) l3) + Ideal.exp (l2 - max (max l1 l2) l3) + Ideal.exp (l3 - max (max l1 l2) l3))

/-- A row after the two mixers' projected output is added. -/
def attRow (h : Fin 1024 → EReal) (a mb : Fin 512 → EReal) (lo hi : Fin 512 → Fin 1024 → EReal) (b g : Fin 1024 → EReal)
    (d : Fin 1024) : EReal :=
  h d + rms (fun d => (∑ k, a k * lo k d + ∑ k, mb k * hi k d) + b d) g d

/-- The row product of a block of rows with a block of columns. -/
def rowDot {n k : ℕ} (a : (⟨2, ![512, k]⟩ : Shape).Idx → EReal) (w : (⟨2, ![k, n]⟩ : Shape).Idx → EReal) (r : Fin 512) (j : Fin n) : EReal :=
  ∑ i : Fin k, a (ix2 r i) * w (ix2 i j)

/-- The gated product of two row products. -/
def gated (a : Vec Ideal S512x1024 .bf16) (w : Vec Ideal S1024x256 .bf16) (b : Vec Ideal S512x1024 .bf16)
    (u : Vec Ideal S1024x256 .bf16) (r : Fin 512) (j : Fin 256) : EReal :=
  swi (rowDot a w r j) (rowDot b u r j)

/-- The mixers' projected output. -/
theorem pay2 (l1 l2 l3 : Vec Ideal S512x512 .f32) (o1 o2 o3 a : Vec Ideal S512x512 .bf16) (lo hi : Vec Ideal S512x1024 .bf16)
    (r : Fin 512) (d : Fin 1024) :
    k0_pay2 (F := Ideal) l1 l2 l3 o1 o2 o3 a lo hi (ix2 r d) =
      ∑ k, a (ix2 r k) * lo (ix2 k d) +
      ∑ k, merged (l1 (ix2 r k)) (l2 (ix2 r k)) (l3 (ix2 r k)) (o1 (ix2 r k)) (o2 (ix2 r k)) (o3 (ix2 r k)) * hi (ix2 k d) := by
  pointwise [k0_pay2]
  rfl

/-- The row after the mixers. -/
theorem pay4 (z : FVec Ideal S512x1024 .f32) (b : Vec Ideal S1x1024 .f32) (h : Vec Ideal S512x1024 .f32) (g : Vec Ideal S1x1024 .f32)
    (r : Fin 512) (d : Fin 1024) :
    k0_pay4 (F := Ideal) z (k0_pay3 b) h g (ix2 r d) =
      h (ix2 r d) + rms (fun k => z (ix2 r k) + b (ix2 0 k)) (fun k => g (ix2 0 k)) d := by
  pointwise [k0_pay4, k0_pay3]
  rfl

/-- The normalisation before the feed-forward block. -/
theorem pay5 (z y : FVec Ideal S512x1024 .f32) (h : Vec Ideal S512x1024 .f32) (g q : Vec Ideal S1x1024 .f32)
    (r : Fin 512) (d : Fin 1024) :
    k0_pay5 (F := Ideal) z y h g q (ix2 r d) =
      rms (fun k => k0_pay4 (F := Ideal) z y h g (ix2 r k)) (fun k => q (ix2 0 k)) d := by
  unfold k0_pay5
  generalize k0_pay4 (F := Ideal) z y h g = w
  pointwise []
  rfl

/-- The row after the feed-forward block. -/
theorem pay30 (a : Vec Ideal S512x2816 .bf16) (w : Vec Ideal S2816x1024 .bf16) (x : Vec Ideal S512x1024 .f32)
    (g : Vec Ideal S1x1024 .f32) (r : Fin 512) (d : Fin 1024) :
    k0_pay30 (F := Ideal) (k0_pay26 a w) (k0_pay27 x) (k0_pay28 g) (k0_pay29 a w) (ix2 r d) =
      x (ix2 r d) + Ideal.ofBits .f32 0x3F000000#32 * rms (fun k => rowDot a w r k) (fun k => g (ix2 0 k)) d := by
  pointwise [k0_pay30, k0_pay26, k0_pay27, k0_pay28, k0_pay29]
  rfl

/-- The normalisation before the embedding's gate. -/
theorem pay31 (z y : FVec Ideal S512x1024 .f32) (h : FVec Ideal S1x1024 .f32) (g : FVec Ideal S512x1024 .f32) (q : Vec Ideal S1x1024 .f32)
    (r : Fin 512) (d : Fin 1024) :
    k0_pay31 (F := Ideal) z y h g q (ix2 r d) =
      rms (fun k => k0_pay30 (F := Ideal) z y h g (ix2 r k)) (fun k => q (ix2 0 k)) d := by
  unfold k0_pay31
  generalize k0_pay30 (F := Ideal) z y h g = w
  pointwise []
  rfl

/-- The row after the gated embedding. -/
theorem pay1 (n : Vec Ideal S512x1024 .bf16) (wg : Vec Ideal S1024x1024 .bf16) (p : Vec Ideal S512x256 .f32) (wp : Vec Ideal S256x1024 .bf16)
    (h : Vec Ideal S512x1024 .f32) (g : Vec Ideal S1x1024 .f32) (r : Fin 512) (d : Fin 1024) :
    k0_pay1 (F := Ideal) (k0_pay32 n wg) p wp h g (ix2 r d) =
      h (ix2 r d) + rms (fun d => sig (rowDot n wg r d) * rowDot p wp r d) (fun k => g (ix2 0 k)) d := by
  pointwise [k0_pay1, k0_pay32]
  simp only [sub_eq_add_neg, zero_add]
  rfl

/-- One chunk of the gated activations. -/
theorem chunk0 (a : Vec Ideal S512x1024 .bf16) (w : Vec Ideal S1024x256 .bf16) (b : Vec Ideal S512x1024 .bf16)
    (u : Vec Ideal S1024x256 .bf16) (r : Fin 512) (j : Fin 256) :
    k0_pay6 (F := Ideal) a w b u (ix2 r j) = gated a w b u r j := by
  pointwise [k0_pay6]
  simp only [sub_eq_add_neg, zero_add]
  rfl

/-- One chunk of the gated activations. -/
theorem chunk1 (a : Vec Ideal S512x1024 .bf16) (w : Vec Ideal S1024x256 .bf16) (b : Vec Ideal S512x1024 .bf16)
    (u : Vec Ideal S1024x256 .bf16) (r : Fin 512) (j : Fin 256) :
    k0_pay9 (F := Ideal) (k0_pay7 b u) (k0_pay8 a w) (ix2 r j) = gated a w b u r j := by
  pointwise [k0_pay9, k0_pay7, k0_pay8]
  simp only [sub_eq_add_neg, zero_add]
  rfl

/-- One chunk of the gated activations. -/
theorem chunk2 (a : Vec Ideal S512x1024 .bf16) (w : Vec Ideal S1024x256 .bf16) (b : Vec Ideal S512x1024 .bf16)
    (u : Vec Ideal S1024x256 .bf16) (r : Fin 512) (j : Fin 256) :
    k0_pay10 (F := Ideal) a w b u (ix2 r j) = gated a w b u r j := by
  pointwise [k0_pay10]
  simp only [sub_eq_add_neg, zero_add]
  rfl

/-- One chunk of the gated activations. -/
theorem chunk3 (a : Vec Ideal S512x1024 .bf16) (w : Vec Ideal S1024x256 .bf16) (b : Vec Ideal S512x1024 .bf16)
    (u : Vec Ideal S1024x256 .bf16) (r : Fin 512) (j : Fin 256) :
    k0_pay12 (F := Ideal) (k0_pay11 a w) b u (ix2 r j) = gated a w b u r j := by
  pointwise [k0_pay12, k0_pay11]
  simp only [sub_eq_add_neg, zero_add]
  rfl

/-- One chunk of the gated activations. -/
theorem chunk4 (a : Vec Ideal S512x1024 .bf16) (w : Vec Ideal S1024x256 .bf16) (b : Vec Ideal S512x1024 .bf16)
    (u : Vec Ideal S1024x256 .bf16) (r : Fin 512) (j : Fin 256) :
    k0_pay13 (F := Ideal) a w b u (ix2 r j) = gated a w b u r j := by
  pointwise [k0_pay13]
  simp only [sub_eq_add_neg, zero_add]
  rfl

/-- One chunk of the gated activations. -/
theorem chunk5 (a : Vec Ideal S512x1024 .bf16) (w : Vec Ideal S1024x256 .bf16) (b : Vec Ideal S512x1024 .bf16)
    (u : Vec Ideal S1024x256 .bf16) (r : Fin 512) (j : Fin 256) :
    k0_pay14 (F := Ideal) a w b u (ix2 r j) = gated a w b u r j := by
  pointwise [k0_pay14]
  simp only [sub_eq_add_neg, zero_add]
  rfl

/-- One chunk of the gated activations. -/
theorem chunk6 (a : Vec Ideal S512x1024 .bf16) (w : Vec Ideal S1024x256 .bf16) (b : Vec Ideal S512x1024 .bf16)
    (u : Vec Ideal S1024x256 .bf16) (r : Fin 512) (j : Fin 256) :
    k0_pay19 (F := Ideal) (k0_pay15 a w) (k0_pay16 b u) (k0_pay17 a w) k0_pay18 (ix2 r j) = gated a w b u r j := by
  pointwise [k0_pay19, k0_pay15, k0_pay16, k0_pay17, k0_pay18]
  simp only [sub_eq_add_neg, zero_add]
  rfl

/-- One chunk of the gated activations. -/
theorem chunk7 (a : Vec Ideal S512x1024 .bf16) (w : Vec Ideal S1024x256 .bf16) (b : Vec Ideal S512x1024 .bf16)
    (u : Vec Ideal S1024x256 .bf16) (r : Fin 512) (j : Fin 256) :
    k0_pay20 (F := Ideal) a w b u (ix2 r j) = gated a w b u r j := by
  pointwise [k0_pay20]
  simp only [sub_eq_add_neg, zero_add]
  rfl

/-- One chunk of the gated activations. -/
theorem chunk8 (a : Vec Ideal S512x1024 .bf16) (w : Vec Ideal S1024x256 .bf16) (b : Vec Ideal S512x1024 .bf16)
    (u : Vec Ideal S1024x256 .bf16) (r : Fin 512) (j : Fin 256) :
    k0_pay22 (F := Ideal) (k0_pay21 a w) b u (ix2 r j) = gated a w b u r j := by
  pointwise [k0_pay22, k0_pay21]
  simp only [sub_eq_add_neg, zero_add]
  rfl

/-- One chunk of the gated activations. -/
theorem chunk9 (a : Vec Ideal S512x1024 .bf16) (w : Vec Ideal S1024x256 .bf16) (b : Vec Ideal S512x1024 .bf16)
    (u : Vec Ideal S1024x256 .bf16) (r : Fin 512) (j : Fin 256) :
    k0_pay24 (F := Ideal) (k0_pay23 a w b u) (ix2 r j) = gated a w b u r j := by
  pointwise [k0_pay24, k0_pay23]
  simp only [sub_eq_add_neg, zero_add]
  rfl

/-- One chunk of the gated activations. -/
theorem chunk10 (a : Vec Ideal S512x1024 .bf16) (w : Vec Ideal S1024x256 .bf16) (b : Vec Ideal S512x1024 .bf16)
    (u : Vec Ideal S1024x256 .bf16) (r : Fin 512) (j : Fin 256) :
    k0_pay25 (F := Ideal) a w b u (ix2 r j) = gated a w b u r j := by
  pointwise [k0_pay25]
  simp only [sub_eq_add_neg, zero_add]
  rfl

end Layer.Last
-- ==== Proof.LastOut.lean ====
module

public import proofs.«01_k».proof.Proof.LastPay
public import proofs.«01_k».proof.Proof.Gen.Kernel3Ideal.Frame
public import Idealize.ShloMosaic.Lib.Pipeline.ValueKit
public import Idealize.ShloMosaic.Lib.Pipeline.ReadBack
public import Idealize.ShloMosaic.Lib.Pipeline.Covers

@[expose] public section

set_option maxRecDepth 16384

noncomputable section

/-!
The last stage's grid: what each point leaves in its output block, at an index.
-/

namespace Layer.Last

open Cert.Kernel3Ideal Cert.Kernel3Ideal.Gen Idealize.ShloMosaic Idealize.ShloMosaic.TcCoe Idealize.SL Idealize.SL.Sem
open scoped BigOperators

/-- One column tile of the gated activations. -/
theorem gated_ld (n : Vec Ideal S512x1024 .bf16) (W : Vec Ideal S1024x5632 .bf16) (o p : ℕ)
    (ho : ∀ a, (![0, o] : Fin 2 → Nat) a + S1024x256.size a ≤ S1024x5632.size a)
    (hp : ∀ a, (![0, p] : Fin 2 → Nat) a + S1024x256.size a ≤ S1024x5632.size a)
    (r : Fin 512) (j : Fin 256) (c : Fin 2816) (hc : c.val = o + j.val) (hq : p = 2816 + o) :
    gated n (View.ld W (Rect.unit ![0, o] ![1024, 256] ho)) n (View.ld W (Rect.unit ![0, p] ![1024, 256] hp)) r j =
      actRow 2816 rfl (fun k => n (ix2 r k)) (fun k j => W (ix2 k j)) c := by
  unfold gated actRow rowDot
  congr 1
  · refine Finset.sum_congr rfl fun k _ => congrArg (n (ix2 r k) * ·) ?_
    refine View.ld_unit_apply_of _ _ _ _ _ _ fun a => ?_
    fin_cases a
    · simp
    · simpa using hc
  · refine Finset.sum_congr rfl fun k _ => congrArg (n (ix2 r k) * ·) ?_
    refine View.ld_unit_apply_of _ _ _ _ _ _ fun a => ?_
    fin_cases a
    · simp
    · simp [hc, hq]; omega

/-- The gated activations of a block of rows. -/
def actTile (n : Vec Ideal S512x1024 .bf16) (W : Vec Ideal S1024x5632 .bf16) : Vec Ideal S512x2816 .bf16 := fun y =>
  actRow 2816 rfl (fun k => n (ix2 (y 0) k)) (fun k j => W (ix2 k j)) (y 1)

/-- The stored activations read back. -/
theorem scr (n : Vec Ideal S512x1024 .bf16) (W : Vec Ideal S1024x5632 .bf16) :
    (View.whole cc0_scratch1).readCov (Val := Elt Ideal)
      [⟨Rect.unit ![0, 2560] ![512, 256] inb_S512x2816_S512x256_0_2560,
        k0_pay25 n (View.ld W (Rect.unit ![0, 2560] ![1024, 256] inb_S1024x5632_S1024x256_0_2560)) n (View.ld W (Rect.unit ![0, 5376] ![1024, 256] inb_S1024x5632_S1024x256_0_5376))⟩,
      ⟨Rect.unit ![0, 2304] ![512, 256] inb_S512x2816_S512x256_0_2304,
        k0_pay24 (k0_pay23 n (View.ld W (Rect.unit ![0, 2304] ![1024, 256] inb_S1024x5632_S1024x256_0_2304)) n (View.ld W (Rect.unit ![0, 5120] ![1024, 256] inb_S1024x5632_S1024x256_0_5120)))⟩,
      ⟨Rect.unit ![0, 2048] ![512, 256] inb_S512x2816_S512x256_0_2048,
        k0_pay22 (k0_pay21 n (View.ld W (Rect.unit ![0, 2048] ![1024, 256] inb_S1024x5632_S1024x256_0_2048))) n (View.ld W (Rect.unit ![0, 4864] ![1024, 256] inb_S1024x5632_S1024x256_0_4864))⟩,
      ⟨Rect.unit ![0, 1792] ![512, 256] inb_S512x2816_S512x256_0_1792,
        k0_pay20 n (View.ld W (Rect.unit ![0, 1792] ![1024, 256] inb_S1024x5632_S1024x256_0_1792)) n (View.ld W (Rect.unit ![0, 4608] ![1024, 256] inb_S1024x5632_S1024x256_0_4608))⟩,
      ⟨Rect.unit ![0, 1536] ![512, 256] inb_S512x2816_S512x256_0_1536,
        k0_pay19 (k0_pay15 n (View.ld W (Rect.unit ![0, 1536] ![1024, 256] inb_S1024x5632_S1024x256_0_1536))) (k0_pay16 n (View.ld W (Rect.unit ![0, 4352] ![1024, 256] inb_S1024x5632_S1024x256_0_4352))) (k0_pay17 n (View.ld W (Rect.unit ![0, 1536] ![1024, 256] inb_S1024x5632_S1024x256_0_1536))) k0_pay18⟩,
      ⟨Rect.unit ![0, 1280] ![512, 256] inb_S512x2816_S512x256_0_1280,
        k0_pay14 n (View.ld W (Rect.unit ![0, 1280] ![1024, 256] inb_S1024x5632_S1024x256_0_1280)) n (View.ld W (Rect.unit ![0, 4096] ![1024, 256] inb_S1024x5632_S1024x256_0_4096))⟩,
      ⟨Rect.unit ![0, 1024] ![512, 256] inb_S512x2816_S512x256_0_1024,
        k0_pay13 n (View.ld W (Rect.unit ![0, 1024] ![1024, 256] inb_S1024x5632_S1024x256_0_1024)) n (View.ld W (Rect.unit ![0, 3840] ![1024, 256] inb_S1024x5632_S1024x256_0_3840))⟩,
      ⟨Rect.unit ![0, 768] ![512, 256] inb_S512x2816_S512x256_0_768,
        k0_pay12 (k0_pay11 n (View.ld W (Rect.unit ![0, 768] ![1024, 256] inb_S1024x5632_S1024x256_0_768))) n (View.ld W (Rect.unit ![0, 3584] ![1024, 256] inb_S1024x5632_S1024x256_0_3584))⟩,
      ⟨Rect.unit ![0, 512] ![512, 256] inb_S512x2816_S512x256_0_512,
        k0_pay10 n (View.ld W (Rect.unit ![0, 512] ![1024, 256] inb_S1024x5632_S1024x256_0_512)) n (View.ld W (Rect.unit ![0, 3328] ![1024, 256] inb_S1024x5632_S1024x256_0_3328))⟩,
      ⟨Rect.unit ![0, 256] ![512, 256] inb_S512x2816_S512x256_0_256,
        k0_pay9 (k0_pay7 n (View.ld W (Rect.unit ![0, 3072] ![1024, 256] inb_S1024x5632_S1024x256_0_3072))) (k0_pay8 n (View.ld W (Rect.unit ![0, 256] ![1024, 256] inb_S1024x5632_S1024x256_0_256)))⟩,
      ⟨Rect.unit ![0, 0] ![512, 256] inb_S512x2816_S512x256_0_0,
        k0_pay6 n (View.ld W (Rect.unit ![0, 0] ![1024, 256] inb_S1024x5632_S1024x256_0_0)) n (View.ld W (Rect.unit ![0, 2816] ![1024, 256] inb_S1024x5632_S1024x256_0_2816))⟩]
      (Rect.unit ![0, 0] ![512, 2816] inb_S512x2816_S512x2816_0_0).toLoadRect = actTile n W := by
  rw [View.readCov_eq_canon']
  funext y
  idx_vars y
  have e : (Rect.unit ![0, 0] ![512, 2816] inb_S512x2816_S512x2816_0_0).toLoadRect.idx (ix2 y0 y1) =
      (ix2 y0 y1 : S512x2816.Idx) := by
    funext a
    fin_cases a <;> exact Fin.ext (by simp)
  refine (congrArg _ e).trans ?_
  change _ = actRow 2816 rfl (fun k => n (ix2 y0 k)) (fun k j => W (ix2 k j)) y1
  canon_tiles x h
  all_goals idx_vars x
  all_goals obtain rfl : x0 = y0 := Fin.ext h0.symm
  · exact (chunk10 _ _ _ _ _ _).trans (gated_ld n W 2560 5376 _ _ _ _ _ (by simpa using h1) rfl)
  · exact (chunk9 _ _ _ _ _ _).trans (gated_ld n W 2304 5120 _ _ _ _ _ (by simpa using h1) rfl)
  · exact (chunk8 _ _ _ _ _ _).trans (gated_ld n W 2048 4864 _ _ _ _ _ (by simpa using h1) rfl)
  · exact (chunk7 _ _ _ _ _ _).trans (gated_ld n W 1792 4608 _ _ _ _ _ (by simpa using h1) rfl)
  · exact (chunk6 _ _ _ _ _ _).trans (gated_ld n W 1536 4352 _ _ _ _ _ (by simpa using h1) rfl)
  · exact (chunk5 _ _ _ _ _ _).trans (gated_ld n W 1280 4096 _ _ _ _ _ (by simpa using h1) rfl)
  · exact (chunk4 _ _ _ _ _ _).trans (gated_ld n W 1024 3840 _ _ _ _ _ (by simpa using h1) rfl)
  · exact (chunk3 _ _ _ _ _ _).trans (gated_ld n W 768 3584 _ _ _ _ _ (by simpa using h1) rfl)
  · exact (chunk2 _ _ _ _ _ _).trans (gated_ld n W 512 3328 _ _ _ _ _ (by simpa using h1) rfl)
  · exact (chunk1 _ _ _ _ _ _).trans (gated_ld n W 256 3072 _ _ _ _ _ (by simpa using h1) rfl)
  · exact (chunk0 _ _ _ _ _ _).trans (gated_ld n W 0 2816 _ _ _ _ _ (by simpa using h1) rfl)

/-- A block of rows after the mixers. -/
def attTile (H : Vec Ideal S512x1024 .f32) (A O1 O2 O3 : Vec Ideal S512x512 .bf16) (L1 L2 L3 : Vec Ideal S512x512 .f32)
    (W : Vec Ideal S1024x1024 .bf16) (B G : Vec Ideal S1x1024 .f32) : FVec Ideal S512x1024 .f32 :=
  k0_pay4 (F := Ideal)
    (k0_pay2 L1 L2 L3 O1 O2 O3 A (View.ld W (Rect.unit ![0, 0] ![512, 1024] inb_S1024x1024_S512x1024_0_0))
      (View.ld W (Rect.unit ![512, 0] ![512, 1024] inb_S1024x1024_S512x1024_512_0)))
    (k0_pay3 B) H G

/-- The two halves of the output projection. -/
theorem ld_half (W : Vec Ideal S1024x1024 .bf16) (o : ℕ)
    (ho : ∀ a, (![o, 0] : Fin 2 → Nat) a + S512x1024.size a ≤ S1024x1024.size a) (k : Fin 512) (d : Fin 1024)
    (c : Fin 1024) (hc : c.val = o + k.val) : View.ld W (Rect.unit ![o, 0] ![512, 1024] ho) (ix2 k d) = W (ix2 c d) := by
  refine View.ld_unit_apply_of _ _ _ _ _ _ fun a => ?_
  fin_cases a
  · simpa using hc
  · simp

theorem attTile_eq (H : Vec Ideal S512x1024 .f32) (A O1 O2 O3 : Vec Ideal S512x512 .bf16) (L1 L2 L3 : Vec Ideal S512x512 .f32)
    (W : Vec Ideal S1024x1024 .bf16) (B G : Vec Ideal S1x1024 .f32) (r : Fin 512) (d : Fin 1024) :
    attTile H A O1 O2 O3 L1 L2 L3 W B G (ix2 r d) =
      attRow (fun k => H (ix2 r k)) (fun k => A (ix2 r k))
        (fun k => merged (L1 (ix2 r k)) (L2 (ix2 r k)) (L3 (ix2 r k)) (O1 (ix2 r k)) (O2 (ix2 r k)) (O3 (ix2 r k)))
        (fun k d => W (ix2 (⟨k.val, by omega⟩ : Fin 1024) d)) (fun k d => W (ix2 (⟨512 + k.val, by omega⟩ : Fin 1024) d))
        (fun k => B (ix2 0 k)) (fun k => G (ix2 0 k)) d := by
  have lo : ∀ (k : Fin 512) (d : Fin 1024), _ := fun k d =>
    ld_half W 0 inb_S1024x1024_S512x1024_0_0 k d ⟨k.val, by omega⟩ (by simp)
  have hi : ∀ (k : Fin 512) (d : Fin 1024), _ := fun k d =>
    ld_half W 512 inb_S1024x1024_S512x1024_512_0 k d ⟨512 + k.val, by omega⟩ rfl
  unfold attTile attRow
  rw [pay4]
  simp only [pay2, lo, hi]

/-- A block of rows after the feed-forward step. -/
def ffnTile (H : FVec Ideal S512x1024 .f32) (N : Vec Ideal S512x1024 .bf16) (W : Vec Ideal S1024x5632 .bf16)
    (D : Vec Ideal S2816x1024 .bf16) (P : Vec Ideal S1x1024 .f32) : FVec Ideal S512x1024 .f32 :=
  k0_pay30 (F := Ideal) (k0_pay26 (actTile N W) D) (k0_pay27 H) (k0_pay28 P) (k0_pay29 (actTile N W) D)

theorem ffnTile_eq (H : FVec Ideal S512x1024 .f32) (N : Vec Ideal S512x1024 .bf16) (G : Vec Ideal S1x1024 .f32)
    (hN : ∀ r d, N (ix2 r d) = rms (fun k => H (ix2 r k)) (fun k => G (ix2 0 k)) d) (W : Vec Ideal S1024x5632 .bf16)
    (D : Vec Ideal S2816x1024 .bf16) (P : Vec Ideal S1x1024 .f32) (r : Fin 512) (d : Fin 1024) :
    ffnTile H N W D P (ix2 r d) =
      ffnRow (fun k => H (ix2 r k)) (fun k => G (ix2 0 k)) (fun k j => W (ix2 k j)) (fun k j => D (ix2 k j))
        (fun k => P (ix2 0 k)) d := by
  have e : ∀ c, actTile N W (ix2 r c) = actRow 2816 rfl (rms (fun k => H (ix2 r k)) (fun k => G (ix2 0 k)))
      (fun k j => W (ix2 k j)) c := fun c => by
    change actRow 2816 rfl (fun k => N (ix2 r k)) _ c = _
    simp only [hN]
  unfold ffnTile ffnRow
  rw [pay30]
  unfold rowDot
  simp only [e]

theorem gate_eq (H : FVec Ideal S512x1024 .f32) (N : Vec Ideal S512x1024 .bf16) (G : Vec Ideal S1x1024 .f32)
    (hN : ∀ r d, N (ix2 r d) = rms (fun k => H (ix2 r k)) (fun k => G (ix2 0 k)) d) (W : Vec Ideal S1024x1024 .bf16)
    (E : Vec Ideal S512x256 .f32) (D : Vec Ideal S256x1024 .bf16) (P : Vec Ideal S1x1024 .f32) (r : Fin 512) (d : Fin 1024) :
    k0_pay1 (F := Ideal) (k0_pay32 N W) E D H P (ix2 r d) =
      gateRow (fun k => H (ix2 r k)) (fun k => G (ix2 0 k)) (fun k j => W (ix2 k j)) (fun k => E (ix2 r k))
        (fun k j => D (ix2 k j)) (fun k => P (ix2 0 k)) d := by
  unfold gateRow
  rw [pay1]
  unfold rowDot
  simp only [hN]

variable (m : (ℓ : Loc nD τ Cert.Kernel3Ideal.sig) → Buf (Elt Ideal) ℓ)

/-- The block of rows after the mixers at a point. -/
def h1At (c : Dev nD) (t : Fin cfg0.N) : FVec Ideal S512x1024 .f32 :=
  attTile (iblk m c 0 t) (iblk m c 1 t) (iblk m c 2 t) (iblk m c 3 t) (iblk m c 4 t) (iblk m c 5 t) (iblk m c 6 t)
    (iblk m c 7 t) (iblk m c 9 t) (iblk m c 10 t) (iblk m c 11 t)

/-- The result rows. -/
theorem out20 (c : Dev nD) (t : Fin cfg0.N) (r : Fin 512) (d : Fin 1024) : outsAt0 (F := Ideal) m c t (ix2 r d) =
    gateRow (ffnRow (fun k => h1At m c t (ix2 r k)) (fun k => (iblk m c 12 t : Vec Ideal S1x1024 .f32) (ix2 0 k))
        (fun k j => (iblk m c 13 t : Vec Ideal S1024x5632 .bf16) (ix2 k j))
        (fun k j => (iblk m c 14 t : Vec Ideal S2816x1024 .bf16) (ix2 k j))
        (fun k => (iblk m c 15 t : Vec Ideal S1x1024 .f32) (ix2 0 k)))
      (fun k => (iblk m c 16 t : Vec Ideal S1x1024 .f32) (ix2 0 k))
      (fun k j => (iblk m c 17 t : Vec Ideal S1024x1024 .bf16) (ix2 k j))
      (fun k => (iblk m c 8 t : Vec Ideal S512x256 .f32) (ix2 r k))
      (fun k j => (iblk m c 18 t : Vec Ideal S256x1024 .bf16) (ix2 k j))
      (fun k => (iblk m c 19 t : Vec Ideal S1x1024 .f32) (ix2 0 k)) d := by
  unfold outsAt0
  frame_open
  simp (disch := decide) only [↓ View.readCov_skip, ↓ View.readCov_cons_toLoadRect, ↓ View.readCov_fill]
  frame_out
  rw [scr]
  refine (gate_eq _ _ (iblk m c 16 t) (fun r d => pay31 _ _ _ _ _ r d) _ _ _ _ r d).trans ?_
  refine congrArg (fun h => gateRow h _ _ _ _ _ d) (funext fun k => ?_)
  exact ffnTile_eq (h1At m c t) _ (iblk m c 12 t) (fun r d => pay5 _ _ _ _ _ r d) _ _ _ r k

end Layer.Last
-- ==== Proof.LastIn.lean ====
module

public import proofs.«01_k».proof.Proof.LastOut
public import Idealize.ShloMosaic.Lib.StableHlo.Run
public import Idealize.ShloMosaic.Lib.Pipeline.Value
public import Idealize.ShloMosaic.Lib.Tactic
public import Idealize.ShloMosaic.Lib.Quiescent
public import Idealize.ShloMosaic.Lib.Pointwise

@[expose] public section

set_option maxRecDepth 16384

noncomputable section

/-!
The last stage's blocks, as functions of the arguments.
-/

namespace Layer.Last

open Cert.Kernel3Ideal Cert.Kernel3Ideal.Gen Idealize.ShloMosaic Idealize.ShloMosaic.TcCoe Idealize.SL Idealize.SL.Sem
open scoped BigOperators

variable (m : (ℓ : Loc nD τ Cert.Kernel3Ideal.sig) → Buf (Elt Ideal) ℓ)

theorem V_v1 (c : Dev nD) : V (F := Ideal) m c main_v1 =
    shapeCast S32768x256 (shapeCast S8x4096x256 (m ((c : Thread nD τ).loc main_arg8)) shapeCasts_S1x8x4096x256_S8x4096x256) shapeCasts_S8x4096x256_S32768x256 := by
  change StableHlo.after hostOps0 (fun b => m (c, b)) (Proc.devRef .tc main_v1) = _
  unfold_abbrev_sides
  after_results
  rfl

theorem V_v5 (c : Dev nD) : V (F := Ideal) m c main_v5 =
    shapeCast S1x1024 (shapeCast S1024 (m ((c : Thread nD τ).loc main_arg10)) shapeCasts_S1x1024_S1024) shapeCasts_S1024_S1x1024 := by
  change StableHlo.after hostOps0 (fun b => m (c, b)) (Proc.devRef .tc main_v5) = _
  unfold_abbrev_sides
  after_results
  rfl

theorem V_v7 (c : Dev nD) : V (F := Ideal) m c main_v7 =
    shapeCast S1x1024 (shapeCast S1024 (m ((c : Thread nD τ).loc main_arg11)) shapeCasts_S1x1024_S1024) shapeCasts_S1024_S1x1024 := by
  change StableHlo.after hostOps0 (fun b => m (c, b)) (Proc.devRef .tc main_v7) = _
  unfold_abbrev_sides
  after_results
  rfl

theorem V_v9 (c : Dev nD) : V (F := Ideal) m c main_v9 =
    shapeCast S1x1024 (shapeCast S1024 (m ((c : Thread nD τ).loc main_arg12)) shapeCasts_S1x1024_S1024) shapeCasts_S1024_S1x1024 := by
  change StableHlo.after hostOps0 (fun b => m (c, b)) (Proc.devRef .tc main_v9) = _
  unfold_abbrev_sides
  after_results
  rfl

theorem V_v15 (c : Dev nD) : V (F := Ideal) m c main_v15 =
    shapeCast S1x1024 (shapeCast S1024 (m ((c : Thread nD τ).loc main_arg15)) shapeCasts_S1x1024_S1024) shapeCasts_S1024_S1x1024 := by
  change StableHlo.after hostOps0 (fun b => m (c, b)) (Proc.devRef .tc main_v15) = _
  unfold_abbrev_sides
  after_results
  rfl

theorem V_v17 (c : Dev nD) : V (F := Ideal) m c main_v17 =
    shapeCast S1x1024 (shapeCast S1024 (m ((c : Thread nD τ).loc main_arg16)) shapeCasts_S1x1024_S1024) shapeCasts_S1024_S1x1024 := by
  change StableHlo.after hostOps0 (fun b => m (c, b)) (Proc.devRef .tc main_v17) = _
  unfold_abbrev_sides
  after_results
  rfl

theorem V_v23 (c : Dev nD) : V (F := Ideal) m c main_v23 =
    shapeCast S1x1024 (shapeCast S1024 (m ((c : Thread nD τ).loc main_arg19)) shapeCasts_S1x1024_S1024) shapeCasts_S1024_S1x1024 := by
  change StableHlo.after hostOps0 (fun b => m (c, b)) (Proc.devRef .tc main_v23) = _
  unfold_abbrev_sides
  after_results
  rfl

theorem V_v3 (c : Dev nD) : V (F := Ideal) m c main_v3 =
    (truncf (F := Ideal) .bf16 (shapeCast S1024x1024 (m ((c : Thread nD τ).loc main_arg9)) shapeCasts_S1x1024x1024_S1024x1024 : Vec Ideal S1024x1024 .f32) bitsLt_bf16_f32 : Vec Ideal S1024x1024 .bf16) := by
  change StableHlo.after hostOps0 (fun b => m (c, b)) (Proc.devRef .tc main_v3) = _
  unfold_abbrev_sides
  after_results
  rfl

theorem V_v11 (c : Dev nD) : V (F := Ideal) m c main_v11 =
    (truncf (F := Ideal) .bf16 (shapeCast S1024x5632 (m ((c : Thread nD τ).loc main_arg13)) shapeCasts_S1x1024x5632_S1024x5632 : Vec Ideal S1024x5632 .f32) bitsLt_bf16_f32 : Vec Ideal S1024x5632 .bf16) := by
  change StableHlo.after hostOps0 (fun b => m (c, b)) (Proc.devRef .tc main_v11) = _
  unfold_abbrev_sides
  after_results
  rfl

theorem V_v13 (c : Dev nD) : V (F := Ideal) m c main_v13 =
    (truncf (F := Ideal) .bf16 (shapeCast S2816x1024 (m ((c : Thread nD τ).loc main_arg14)) shapeCasts_S1x2816x1024_S2816x1024 : Vec Ideal S2816x1024 .f32) bitsLt_bf16_f32 : Vec Ideal S2816x1024 .bf16) := by
  change StableHlo.after hostOps0 (fun b => m (c, b)) (Proc.devRef .tc main_v13) = _
  unfold_abbrev_sides
  after_results
  rfl

theorem V_v19 (c : Dev nD) : V (F := Ideal) m c main_v19 =
    (truncf (F := Ideal) .bf16 (shapeCast S1024x1024 (m ((c : Thread nD τ).loc main_arg17)) shapeCasts_S1x1024x1024_S1024x1024 : Vec Ideal S1024x1024 .f32) bitsLt_bf16_f32 : Vec Ideal S1024x1024 .bf16) := by
  change StableHlo.after hostOps0 (fun b => m (c, b)) (Proc.devRef .tc main_v19) = _
  unfold_abbrev_sides
  after_results
  rfl

theorem V_v21 (c : Dev nD) : V (F := Ideal) m c main_v21 =
    (truncf (F := Ideal) .bf16 (shapeCast S256x1024 (m ((c : Thread nD τ).loc main_arg18)) shapeCasts_S1x256x1024_S256x1024 : Vec Ideal S256x1024 .f32) bitsLt_bf16_f32 : Vec Ideal S256x1024 .bf16) := by
  change StableHlo.after hostOps0 (fun b => m (c, b)) (Proc.devRef .tc main_v21) = _
  unfold_abbrev_sides
  after_results
  rfl

theorem idx0 : ∀ t : Fin cfg0.N, win0_0.index t = ![t.val, 0] := by decide +kernel

theorem idx1 : ∀ t : Fin cfg0.N, win0_1.index t = ![t.val, 0] := by decide +kernel

theorem idx2 : ∀ t : Fin cfg0.N, win0_2.index t = ![t.val, 0] := by decide +kernel

theorem idx3 : ∀ t : Fin cfg0.N, win0_3.index t = ![t.val, 0] := by decide +kernel

theorem idx4 : ∀ t : Fin cfg0.N, win0_4.index t = ![t.val, 0] := by decide +kernel

theorem idx5 : ∀ t : Fin cfg0.N, win0_5.index t = ![t.val, 0] := by decide +kernel

theorem idx6 : ∀ t : Fin cfg0.N, win0_6.index t = ![t.val, 0] := by decide +kernel

theorem idx7 : ∀ t : Fin cfg0.N, win0_7.index t = ![t.val, 0] := by decide +kernel

theorem idx8 : ∀ t : Fin cfg0.N, win0_8.index t = ![t.val, 0] := by decide +kernel

theorem idx9 : ∀ t : Fin cfg0.N, win0_9.index t = ![0, 0] := by decide +kernel

theorem idx10 : ∀ t : Fin cfg0.N, win0_10.index t = ![0, 0] := by decide +kernel

theorem idx11 : ∀ t : Fin cfg0.N, win0_11.index t = ![0, 0] := by decide +kernel

theorem idx12 : ∀ t : Fin cfg0.N, win0_12.index t = ![0, 0] := by decide +kernel

theorem idx13 : ∀ t : Fin cfg0.N, win0_13.index t = ![0, 0] := by decide +kernel

theorem idx14 : ∀ t : Fin cfg0.N, win0_14.index t = ![0, 0] := by decide +kernel

theorem idx15 : ∀ t : Fin cfg0.N, win0_15.index t = ![0, 0] := by decide +kernel

theorem idx16 : ∀ t : Fin cfg0.N, win0_16.index t = ![0, 0] := by decide +kernel

theorem idx17 : ∀ t : Fin cfg0.N, win0_17.index t = ![0, 0] := by decide +kernel

theorem idx18 : ∀ t : Fin cfg0.N, win0_18.index t = ![0, 0] := by decide +kernel

theorem idx19 : ∀ t : Fin cfg0.N, win0_19.index t = ![0, 0] := by decide +kernel

theorem idx20 : ∀ t : Fin cfg0.N, win0_20.index t = ![t.val, 0] := by decide +kernel

theorem rd_emb (x : Vec Ideal S1x8x4096x256 .f32) (t : ℕ) (ht : t < 64) (r : Fin 512) (k : Fin 256) :
    shapeCast S32768x256 (shapeCast S8x4096x256 x shapeCasts_S1x8x4096x256_S8x4096x256) shapeCasts_S8x4096x256_S32768x256
        (ix2 (⟨t * 512 + r.val, by omega⟩ : Fin 32768) k) =
      x (ix4 0 ⟨(t * 512 + r.val) / 4096, by omega⟩ ⟨(t * 512 + r.val) % 4096, by omega⟩ k) := by
  pointwise []

theorem rd_vec (x : Vec Ideal S1x1024 .f32) (k : Fin 1024) :
    shapeCast S1x1024 (shapeCast S1024 x shapeCasts_S1x1024_S1024) shapeCasts_S1024_S1x1024 (ix2 0 k) = x (ix2 0 k) := by
  pointwise []

theorem rd_256_1024 (x : Vec Ideal S1x256x1024 .f32) (k : Fin 256) (j : Fin 1024) :
    (truncf (F := Ideal) .bf16 (shapeCast S256x1024 x shapeCasts_S1x256x1024_S256x1024 : Vec Ideal S256x1024 .f32) bitsLt_bf16_f32 : Vec Ideal S256x1024 .bf16) (ix2 k j) =
      x (ix3 0 k j) := by
  pointwise []

theorem rd_1024_1024 (x : Vec Ideal S1x1024x1024 .f32) (k : Fin 1024) (j : Fin 1024) :
    (truncf (F := Ideal) .bf16 (shapeCast S1024x1024 x shapeCasts_S1x1024x1024_S1024x1024 : Vec Ideal S1024x1024 .f32) bitsLt_bf16_f32 : Vec Ideal S1024x1024 .bf16) (ix2 k j) =
      x (ix3 0 k j) := by
  pointwise []

theorem rd_1024_5632 (x : Vec Ideal S1x1024x5632 .f32) (k : Fin 1024) (j : Fin 5632) :
    (truncf (F := Ideal) .bf16 (shapeCast S1024x5632 x shapeCasts_S1x1024x5632_S1024x5632 : Vec Ideal S1024x5632 .f32) bitsLt_bf16_f32 : Vec Ideal S1024x5632 .bf16) (ix2 k j) =
      x (ix3 0 k j) := by
  pointwise []

theorem rd_2816_1024 (x : Vec Ideal S1x2816x1024 .f32) (k : Fin 2816) (j : Fin 1024) :
    (truncf (F := Ideal) .bf16 (shapeCast S2816x1024 x shapeCasts_S1x2816x1024_S2816x1024 : Vec Ideal S2816x1024 .f32) bitsLt_bf16_f32 : Vec Ideal S2816x1024 .bf16) (ix2 k j) =
      x (ix3 0 k j) := by
  pointwise []

/-- A token's row in the flat arrays. -/
def rowOf (t : Fin cfg0.N) (r : Fin 512) : Fin 32768 := ⟨t.val * 512 + r.val, by have : t.val < 64 := t.isLt; omega⟩

theorem blk0 (c : Dev nD) (t : Fin cfg0.N) (r : Fin 512) (k : Fin 1024) : (iblk (F := Ideal) m c 0 t : Vec Ideal S512x1024 .f32) (ix2 r k) =
    m ((c : Thread nD τ).loc main_arg0) (ix2 (rowOf t r) k) := by
  have ht : t.val < 64 := t.isLt
  blk_simp [iblk]
  have e : (win0_0.blk t).view.emb (ix2 r k) = ix2 (⟨t.val * 512 + r.val, by omega⟩ : Fin 32768) k := by blk_ext [idx0]
  change V m c main_arg0 _ = _
  rw [e, V_main_arg0]
  rfl

theorem blk1 (c : Dev nD) (t : Fin cfg0.N) (r : Fin 512) (k : Fin 512) : (iblk (F := Ideal) m c 1 t : Vec Ideal S512x512 .bf16) (ix2 r k) =
    m ((c : Thread nD τ).loc main_arg1) (ix2 (rowOf t r) k) := by
  have ht : t.val < 64 := t.isLt
  blk_simp [iblk]
  have e : (win0_1.blk t).view.emb (ix2 r k) = ix2 (⟨t.val * 512 + r.val, by omega⟩ : Fin 32768) k := by blk_ext [idx1]
  change V m c main_arg1 _ = _
  rw [e, V_main_arg1]
  rfl

theorem blk2 (c : Dev nD) (t : Fin cfg0.N) (r : Fin 512) (k : Fin 512) : (iblk (F := Ideal) m c 2 t : Vec Ideal S512x512 .bf16) (ix2 r k) =
    m ((c : Thread nD τ).loc main_arg2) (ix2 (rowOf t r) k) := by
  have ht : t.val < 64 := t.isLt
  blk_simp [iblk]
  have e : (win0_2.blk t).view.emb (ix2 r k) = ix2 (⟨t.val * 512 + r.val, by omega⟩ : Fin 32768) k := by blk_ext [idx2]
  change V m c main_arg2 _ = _
  rw [e, V_main_arg2]
  rfl

theorem blk3 (c : Dev nD) (t : Fin cfg0.N) (r : Fin 512) (k : Fin 512) : (iblk (F := Ideal) m c 3 t : Vec Ideal S512x512 .bf16) (ix2 r k) =
    m ((c : Thread nD τ).loc main_arg3) (ix2 (rowOf t r) k) := by
  have ht : t.val < 64 := t.isLt
  blk_simp [iblk]
  have e : (win0_3.blk t).view.emb (ix2 r k) = ix2 (⟨t.val * 512 + r.val, by omega⟩ : Fin 32768) k := by blk_ext [idx3]
  change V m c main_arg3 _ = _
  rw [e, V_main_arg3]
  rfl

theorem blk4 (c : Dev nD) (t : Fin cfg0.N) (r : Fin 512) (k : Fin 512) : (iblk (F := Ideal) m c 4 t : Vec Ideal S512x512 .bf16) (ix2 r k) =
    m ((c : Thread nD τ).loc main_arg4) (ix2 (rowOf t r) k) := by
  have ht : t.val < 64 := t.isLt
  blk_simp [iblk]
  have e : (win0_4.blk t).view.emb (ix2 r k) = ix2 (⟨t.val * 512 + r.val, by omega⟩ : Fin 32768) k := by blk_ext [idx4]
  change V m c main_arg4 _ = _
  rw [e, V_main_arg4]
  rfl

theorem blk5 (c : Dev nD) (t : Fin cfg0.N) (r : Fin 512) (k : Fin 512) : (iblk (F := Ideal) m c 5 t : Vec Ideal S512x512 .f32) (ix2 r k) =
    m ((c : Thread nD τ).loc main_arg5) (ix2 (rowOf t r) k) := by
  have ht : t.val < 64 := t.isLt
  blk_simp [iblk]
  have e : (win0_5.blk t).view.emb (ix2 r k) = ix2 (⟨t.val * 512 + r.val, by omega⟩ : Fin 32768) k := by blk_ext [idx5]
  change V m c main_arg5 _ = _
  rw [e, V_main_arg5]
  rfl

theorem blk6 (c : Dev nD) (t : Fin cfg0.N) (r : Fin 512) (k : Fin 512) : (iblk (F := Ideal) m c 6 t : Vec Ideal S512x512 .f32) (ix2 r k) =
    m ((c : Thread nD τ).loc main_arg6) (ix2 (rowOf t r) k) := by
  have ht : t.val < 64 := t.isLt
  blk_simp [iblk]
  have e : (win0_6.blk t).view.emb (ix2 r k) = ix2 (⟨t.val * 512 + r.val, by omega⟩ : Fin 32768) k := by blk_ext [idx6]
  change V m c main_arg6 _ = _
  rw [e, V_main_arg6]
  rfl

theorem blk7 (c : Dev nD) (t : Fin cfg0.N) (r : Fin 512) (k : Fin 512) : (iblk (F := Ideal) m c 7 t : Vec Ideal S512x512 .f32) (ix2 r k) =
    m ((c : Thread nD τ).loc main_arg7) (ix2 (rowOf t r) k) := by
  have ht : t.val < 64 := t.isLt
  blk_simp [iblk]
  have e : (win0_7.blk t).view.emb (ix2 r k) = ix2 (⟨t.val * 512 + r.val, by omega⟩ : Fin 32768) k := by blk_ext [idx7]
  change V m c main_arg7 _ = _
  rw [e, V_main_arg7]
  rfl

theorem blk8 (c : Dev nD) (t : Fin cfg0.N) (r : Fin 512) (k : Fin 256) : (iblk (F := Ideal) m c 8 t : Vec Ideal S512x256 .f32) (ix2 r k) =
    m ((c : Thread nD τ).loc main_arg8) (ix4 0 (⟨(rowOf t r).val / 4096, by have := (rowOf t r).isLt; omega⟩ : Fin 8) (⟨(rowOf t r).val % 4096, by omega⟩ : Fin 4096) k) := by
  have ht : t.val < 64 := t.isLt
  blk_simp [iblk]
  have e : (win0_8.blk t).view.emb (ix2 r k) = ix2 (⟨t.val * 512 + r.val, by omega⟩ : Fin 32768) k := by blk_ext [idx8]
  change V m c main_v1 _ = _
  rw [e, V_v1]
  exact rd_emb _ t.val ht r k

theorem blk10 (c : Dev nD) (t : Fin cfg0.N) (k : Fin 1024) : (iblk (F := Ideal) m c 10 t : Vec Ideal S1x1024 .f32) (ix2 0 k) =
    m ((c : Thread nD τ).loc main_arg10) (ix2 0 k) := by
  have ht : t.val < 64 := t.isLt
  blk_simp [iblk]
  have e : (win0_10.blk t).view.emb (ix2 0 k) = ix2 (0 : Fin 1) k := by blk_ext [idx10]
  change V m c main_v5 _ = _
  rw [e, V_v5]
  exact rd_vec _ k

theorem blk11 (c : Dev nD) (t : Fin cfg0.N) (k : Fin 1024) : (iblk (F := Ideal) m c 11 t : Vec Ideal S1x1024 .f32) (ix2 0 k) =
    m ((c : Thread nD τ).loc main_arg11) (ix2 0 k) := by
  have ht : t.val < 64 := t.isLt
  blk_simp [iblk]
  have e : (win0_11.blk t).view.emb (ix2 0 k) = ix2 (0 : Fin 1) k := by blk_ext [idx11]
  change V m c main_v7 _ = _
  rw [e, V_v7]
  exact rd_vec _ k

theorem blk12 (c : Dev nD) (t : Fin cfg0.N) (k : Fin 1024) : (iblk (F := Ideal) m c 12 t : Vec Ideal S1x1024 .f32) (ix2 0 k) =
    m ((c : Thread nD τ).loc main_arg12) (ix2 0 k) := by
  have ht : t.val < 64 := t.isLt
  blk_simp [iblk]
  have e : (win0_12.blk t).view.emb (ix2 0 k) = ix2 (0 : Fin 1) k := by blk_ext [idx12]
  change V m c main_v9 _ = _
  rw [e, V_v9]
  exact rd_vec _ k

theorem blk15 (c : Dev nD) (t : Fin cfg0.N) (k : Fin 1024) : (iblk (F := Ideal) m c 15 t : Vec Ideal S1x1024 .f32) (ix2 0 k) =
    m ((c : Thread nD τ).loc main_arg15) (ix2 0 k) := by
  have ht : t.val < 64 := t.isLt
  blk_simp [iblk]
  have e : (win0_15.blk t).view.emb (ix2 0 k) = ix2 (0 : Fin 1) k := by blk_ext [idx15]
  change V m c main_v15 _ = _
  rw [e, V_v15]
  exact rd_vec _ k

theorem blk16 (c : Dev nD) (t : Fin cfg0.N) (k : Fin 1024) : (iblk (F := Ideal) m c 16 t : Vec Ideal S1x1024 .f32) (ix2 0 k) =
    m ((c : Thread nD τ).loc main_arg16) (ix2 0 k) := by
  have ht : t.val < 64 := t.isLt
  blk_simp [iblk]
  have e : (win0_16.blk t).view.emb (ix2 0 k) = ix2 (0 : Fin 1) k := by blk_ext [idx16]
  change V m c main_v17 _ = _
  rw [e, V_v17]
  exact rd_vec _ k

theorem blk19 (c : Dev nD) (t : Fin cfg0.N) (k : Fin 1024) : (iblk (F := Ideal) m c 19 t : Vec Ideal S1x1024 .f32) (ix2 0 k) =
    m ((c : Thread nD τ).loc main_arg19) (ix2 0 k) := by
  have ht : t.val < 64 := t.isLt
  blk_simp [iblk]
  have e : (win0_19.blk t).view.emb (ix2 0 k) = ix2 (0 : Fin 1) k := by blk_ext [idx19]
  change V m c main_v23 _ = _
  rw [e, V_v23]
  exact rd_vec _ k

theorem blk9 (c : Dev nD) (t : Fin cfg0.N) (k : Fin 1024) (j : Fin 1024) : (iblk (F := Ideal) m c 9 t : Vec Ideal S1024x1024 .bf16) (ix2 k j) =
    m ((c : Thread nD τ).loc main_arg9) (ix3 0 k j) := by
  have ht : t.val < 64 := t.isLt
  blk_simp [iblk]
  have e : (win0_9.blk t).view.emb (ix2 k j) = ix2 k j := by blk_ext [idx9]
  change V m c main_v3 _ = _
  rw [e, V_v3]
  exact rd_1024_1024 _ k j

theorem blk13 (c : Dev nD) (t : Fin cfg0.N) (k : Fin 1024) (j : Fin 5632) : (iblk (F := Ideal) m c 13 t : Vec Ideal S1024x5632 .bf16) (ix2 k j) =
    m ((c : Thread nD τ).loc main_arg13) (ix3 0 k j) := by
  have ht : t.val < 64 := t.isLt
  blk_simp [iblk]
  have e : (win0_13.blk t).view.emb (ix2 k j) = ix2 k j := by blk_ext [idx13]
  change V m c main_v11 _ = _
  rw [e, V_v11]
  exact rd_1024_5632 _ k j

theorem blk14 (c : Dev nD) (t : Fin cfg0.N) (k : Fin 2816) (j : Fin 1024) : (iblk (F := Ideal) m c 14 t : Vec Ideal S2816x1024 .bf16) (ix2 k j) =
    m ((c : Thread nD τ).loc main_arg14) (ix3 0 k j) := by
  have ht : t.val < 64 := t.isLt
  blk_simp [iblk]
  have e : (win0_14.blk t).view.emb (ix2 k j) = ix2 k j := by blk_ext [idx14]
  change V m c main_v13 _ = _
  rw [e, V_v13]
  exact rd_2816_1024 _ k j

theorem blk17 (c : Dev nD) (t : Fin cfg0.N) (k : Fin 1024) (j : Fin 1024) : (iblk (F := Ideal) m c 17 t : Vec Ideal S1024x1024 .bf16) (ix2 k j) =
    m ((c : Thread nD τ).loc main_arg17) (ix3 0 k j) := by
  have ht : t.val < 64 := t.isLt
  blk_simp [iblk]
  have e : (win0_17.blk t).view.emb (ix2 k j) = ix2 k j := by blk_ext [idx17]
  change V m c main_v19 _ = _
  rw [e, V_v19]
  exact rd_1024_1024 _ k j

theorem blk18 (c : Dev nD) (t : Fin cfg0.N) (k : Fin 256) (j : Fin 1024) : (iblk (F := Ideal) m c 18 t : Vec Ideal S256x1024 .bf16) (ix2 k j) =
    m ((c : Thread nD τ).loc main_arg18) (ix3 0 k j) := by
  have ht : t.val < 64 := t.isLt
  blk_simp [iblk]
  have e : (win0_18.blk t).view.emb (ix2 k j) = ix2 k j := by blk_ext [idx18]
  change V m c main_v21 _ = _
  rw [e, V_v21]
  exact rd_256_1024 _ k j

end Layer.Last
-- ==== Proof.LastArr.lean ====
module

public import proofs.«01_k».proof.Proof.LastIn

@[expose] public section

set_option maxRecDepth 16384

noncomputable section

/-!
The last stage's result array, as a function of the arguments.
-/

namespace Layer.Last

open Cert.Kernel3Ideal Cert.Kernel3Ideal.Gen Idealize.ShloMosaic Idealize.ShloMosaic.TcCoe Idealize.SL Idealize.SL.Sem
open scoped BigOperators

variable (x0 : (⟨S32768x1024, .f32⟩ : BufTy).Contents (Elt Ideal))
  (x1 : (⟨S32768x512, .bf16⟩ : BufTy).Contents (Elt Ideal))
  (x2 : (⟨S32768x512, .bf16⟩ : BufTy).Contents (Elt Ideal))
  (x3 : (⟨S32768x512, .bf16⟩ : BufTy).Contents (Elt Ideal))
  (x4 : (⟨S32768x512, .bf16⟩ : BufTy).Contents (Elt Ideal))
  (x5 : (⟨S32768x512, .f32⟩ : BufTy).Contents (Elt Ideal))
  (x6 : (⟨S32768x512, .f32⟩ : BufTy).Contents (Elt Ideal))
  (x7 : (⟨S32768x512, .f32⟩ : BufTy).Contents (Elt Ideal))
  (x8 : (⟨S1x8x4096x256, .f32⟩ : BufTy).Contents (Elt Ideal))
  (x9 : (⟨S1x1024x1024, .f32⟩ : BufTy).Contents (Elt Ideal))
  (x10 : (⟨S1x1024, .f32⟩ : BufTy).Contents (Elt Ideal))
  (x11 : (⟨S1x1024, .f32⟩ : BufTy).Contents (Elt Ideal))
  (x12 : (⟨S1x1024, .f32⟩ : BufTy).Contents (Elt Ideal))
  (x13 : (⟨S1x1024x5632, .f32⟩ : BufTy).Contents (Elt Ideal))
  (x14 : (⟨S1x2816x1024, .f32⟩ : BufTy).Contents (Elt Ideal))
  (x15 : (⟨S1x1024, .f32⟩ : BufTy).Contents (Elt Ideal))
  (x16 : (⟨S1x1024, .f32⟩ : BufTy).Contents (Elt Ideal))
  (x17 : (⟨S1x1024x1024, .f32⟩ : BufTy).Contents (Elt Ideal))
  (x18 : (⟨S1x256x1024, .f32⟩ : BufTy).Contents (Elt Ideal))
  (x19 : (⟨S1x1024, .f32⟩ : BufTy).Contents (Elt Ideal))

/-- A token's row after the mixers. -/
def row1 (t : Fin 32768) : Fin 1024 → EReal :=
  attRow (fun k => x0 (ix2 t k)) (fun k => x1 (ix2 t k))
    (fun k => merged (x5 (ix2 t k)) (x6 (ix2 t k))
      (x7 (ix2 t k)) (x2 (ix2 t k))
      (x3 (ix2 t k)) (x4 (ix2 t k)))
    (fun k d => x9 (ix3 0 (⟨k.val, by omega⟩ : Fin 1024) d))
    (fun k d => x9 (ix3 0 (⟨512 + k.val, by omega⟩ : Fin 1024) d))
    (fun k => x10 (ix2 0 k)) (fun k => x11 (ix2 0 k))

/-- A token's row after the feed-forward step. -/
def row2 (t : Fin 32768) : Fin 1024 → EReal :=
  ffnRow (row1 x0 x1 x2 x3 x4 x5 x6 x7 x9 x10 x11 t) (fun k => x12 (ix2 0 k))
    (fun k j => x13 (ix3 0 k j)) (fun k j => x14 (ix3 0 k j))
    (fun k => x15 (ix2 0 k))

/-- A token's last row. -/
def row3 (t : Fin 32768) : Fin 1024 → EReal :=
  gateRow (row2 x0 x1 x2 x3 x4 x5 x6 x7 x9 x10 x11 x12 x13 x14 x15 t) (fun k => x16 (ix2 0 k))
    (fun k j => x17 (ix3 0 k j))
    (fun k => x8 (ix4 0 (⟨t.val / 4096, by omega⟩ : Fin 8) (⟨t.val % 4096, by omega⟩ : Fin 4096) k))
    (fun k j => x18 (ix3 0 k j)) (fun k => x19 (ix2 0 k))

theorem attRow_congr {h h' g g' b b' : Fin 1024 → EReal} {a a' c c' : Fin 512 → EReal} {l l' u u' : Fin 512 → Fin 1024 → EReal}
    (hh : ∀ k, h k = h' k) (ha : ∀ k, a k = a' k) (hc : ∀ k, c k = c' k) (hl : ∀ k j, l k j = l' k j) (hu : ∀ k j, u k j = u' k j)
    (hb : ∀ k, b k = b' k) (hg : ∀ k, g k = g' k) (d : Fin 1024) : attRow h a c l u b g d = attRow h' a' c' l' u' b' g' d := by
  obtain rfl : h = h' := funext hh
  obtain rfl : a = a' := funext ha
  obtain rfl : c = c' := funext hc
  obtain rfl : l = l' := funext fun k => funext (hl k)
  obtain rfl : u = u' := funext fun k => funext (hu k)
  obtain rfl : b = b' := funext hb
  obtain rfl : g = g' := funext hg
  rfl

theorem merged_congr {a a' b b' c c' d d' e e' f f' : EReal} (ha : a = a') (hb : b = b') (hc : c = c') (hd : d = d') (he : e = e')
    (hf : f = f') : merged a b c d e f = merged a' b' c' d' e' f' := by
  rw [ha, hb, hc, hd, he, hf]

theorem ffn_congr {x x' g g' p p' : Fin 1024 → EReal} {w w' : Fin 1024 → Fin 5632 → EReal}
    {v v' : Fin 2816 → Fin 1024 → EReal} (hx : ∀ k, x k = x' k) (hg : ∀ k, g k = g' k) (hw : ∀ k j, w k j = w' k j)
    (hv : ∀ k j, v k j = v' k j) (hp : ∀ k, p k = p' k) (d : Fin 1024) : ffnRow x g w v p d = ffnRow x' g' w' v' p' d := by
  obtain rfl : x = x' := funext hx
  obtain rfl : g = g' := funext hg
  obtain rfl : w = w' := funext fun k => funext (hw k)
  obtain rfl : v = v' := funext fun k => funext (hv k)
  obtain rfl : p = p' := funext hp
  rfl

theorem gate_congr {h h' g g' q q' : Fin 1024 → EReal} {w w' : Fin 1024 → Fin 1024 → EReal} {p p' : Fin 256 → EReal}
    {v v' : Fin 256 → Fin 1024 → EReal} (hh : ∀ k, h k = h' k) (hg : ∀ k, g k = g' k) (hw : ∀ k j, w k j = w' k j)
    (hp : ∀ k, p k = p' k) (hv : ∀ k j, v k j = v' k j) (hq : ∀ k, q k = q' k) (d : Fin 1024) :
    gateRow h g w p v q d = gateRow h' g' w' p' v' q' d := by
  obtain rfl : h = h' := funext hh
  obtain rfl : g = g' := funext hg
  obtain rfl : w = w' := funext fun k => funext (hw k)
  obtain rfl : p = p' := funext hp
  obtain rfl : v = v' := funext fun k => funext (hv k)
  obtain rfl : q = q' := funext hq
  rfl

variable (m : (ℓ : Loc nD τ Cert.Kernel3Ideal.sig) → Buf (Elt Ideal) ℓ)

/-- A token's row after the mixers, in the run. -/
def val1 (c : Dev nD) (t : Fin 32768) : Fin 1024 → EReal := row1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) t

/-- A token's row after the feed-forward step, in the run. -/
def val2 (c : Dev nD) (t : Fin 32768) : Fin 1024 → EReal := row2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) t

/-- A token's last row, in the run. -/
def val3 (c : Dev nD) (t : Fin 32768) : Fin 1024 → EReal := row3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) t

theorem h1_val (c : Dev nD) (t : Fin cfg0.N) (r : Fin 512) (d : Fin 1024) : h1At m c t (ix2 r d) = val1 m c (rowOf t r) d :=
  (attTile_eq _ _ _ _ _ _ _ _ _ _ _ r d).trans
    (attRow_congr (blk0 m c t r) (blk1 m c t r)
      (fun k => merged_congr (blk5 m c t r k) (blk6 m c t r k) (blk7 m c t r k) (blk2 m c t r k) (blk3 m c t r k) (blk4 m c t r k))
      (fun k j => blk9 m c t _ j) (fun k j => blk9 m c t _ j) (blk10 m c t) (blk11 m c t) d)

theorem out_val (c : Dev nD) (t : Fin cfg0.N) (r : Fin 512) (d : Fin 1024) :
    outsAt0 (F := Ideal) m c t (ix2 r d) = val3 m c (rowOf t r) d :=
  (out20 m c t r d).trans
    (gate_congr
      (fun k => ffn_congr (h1_val m c t r) (blk12 m c t) (blk13 m c t) (blk14 m c t) (blk15 m c t) k)
      (blk16 m c t) (blk17 m c t) (blk8 m c t r) (blk18 m c t) (blk19 m c t) d)

/-- The last rows. -/
def lastArr (c : Dev nD) : Vec Ideal S32768x1024 .f32 := fun y => val3 m c (y 0) (y 1)

theorem final20 (c : Dev nD) : (dats (F := Ideal) m 0 c).arrAt 20 cfg0.N = lastArr m c := by
  refine (dats m 0 c).arrAt_eq_of_covers 20 _ (by decide +kernel) fun t hf y => ?_
  have ht : t.val < 64 := t.isLt
  blk_simp
  rw [after0_20]
  idx_vars y
  have e : (win0_20.blk t).view.emb (ix2 y0 y1) = ix2 (⟨t.val * 512 + y0.val, by omega⟩ : Fin 32768) y1 := by blk_ext [idx20]
  exact (out_val m c t y0 y1).trans (congrArg (lastArr m c) e).symm

end Layer.Last
-- ==== Proof.RefLast.lean ====
module

public import proofs.«01_k».proof.Proof.Soft
public import proofs.«01_k».proof.Proof.LastPay
public import proofs.«01_k».proof.Proof.Gen.Reference3Ideal.Read
public import Idealize.ShloMosaic.Lib.Pointwise

@[expose] public section

set_option maxRecDepth 16384

noncomputable section

/-!
The reference's last part (merge, output projection, second feed-forward block and gated embedding) read at an index.
-/

namespace Layer.LastRef

open Cert.Reference3Ideal Cert.Reference3Ideal.Gen Cert.Reference3Ideal.Read Idealize.ShloMosaic
open scoped BigOperators

variable (x0 : (⟨S32768x1024, .f32⟩ : BufTy).Contents (Elt Ideal))
  (x1 : (⟨S32768x512, .bf16⟩ : BufTy).Contents (Elt Ideal))
  (x2 : (⟨S32768x512, .bf16⟩ : BufTy).Contents (Elt Ideal))
  (x3 : (⟨S32768x512, .bf16⟩ : BufTy).Contents (Elt Ideal))
  (x4 : (⟨S32768x512, .bf16⟩ : BufTy).Contents (Elt Ideal))
  (x5 : (⟨S32768x512, .f32⟩ : BufTy).Contents (Elt Ideal))
  (x6 : (⟨S32768x512, .f32⟩ : BufTy).Contents (Elt Ideal))
  (x7 : (⟨S32768x512, .f32⟩ : BufTy).Contents (Elt Ideal))
  (x8 : (⟨S1x8x4096x256, .f32⟩ : BufTy).Contents (Elt Ideal))
  (x9 : (⟨S1x1024x1024, .f32⟩ : BufTy).Contents (Elt Ideal))
  (x10 : (⟨S1x1024, .f32⟩ : BufTy).Contents (Elt Ideal))
  (x11 : (⟨S1x1024, .f32⟩ : BufTy).Contents (Elt Ideal))
  (x12 : (⟨S1x1024, .f32⟩ : BufTy).Contents (Elt Ideal))
  (x13 : (⟨S1x1024x5632, .f32⟩ : BufTy).Contents (Elt Ideal))
  (x14 : (⟨S1x2816x1024, .f32⟩ : BufTy).Contents (Elt Ideal))
  (x15 : (⟨S1x1024, .f32⟩ : BufTy).Contents (Elt Ideal))
  (x16 : (⟨S1x1024, .f32⟩ : BufTy).Contents (Elt Ideal))
  (x17 : (⟨S1x1024x1024, .f32⟩ : BufTy).Contents (Elt Ideal))
  (x18 : (⟨S1x256x1024, .f32⟩ : BufTy).Contents (Elt Ideal))
  (x19 : (⟨S1x1024, .f32⟩ : BufTy).Contents (Elt Ideal))

/-- The three windows' merged output. -/
theorem mixB (t : Fin 32768) (k : Fin 512) :
    val_main_v18 (F := Ideal) x2 x3 x4 x5 x6 x7 (ix2 t k) =
      Last.merged (x5 (ix2 t k)) (x6 (ix2 t k)) (x7 (ix2 t k)) (x2 (ix2 t k)) (x3 (ix2 t k)) (x4 (ix2 t k)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18]
  rfl

/-- Both mixers' outputs side by side: the first's lanes. -/
theorem mixLo (t : Fin 32768) (k : Fin 512) :
    val_main_v20 (F := Ideal) x1 x2 x3 x4 x5 x6 x7 (ix2 t (⟨k.val, by omega⟩ : Fin 1024)) = x1 (ix2 t k) := by
  unfold val_main_v20
  generalize val_main_v18 (F := Ideal) x2 x3 x4 x5 x6 x7 = w
  pointwise [val_main_v19]

/-- Both mixers' outputs side by side: the second's lanes. -/
theorem mixHi (t : Fin 32768) (k : Fin 512) :
    val_main_v20 (F := Ideal) x1 x2 x3 x4 x5 x6 x7 (ix2 t (⟨512 + k.val, by omega⟩ : Fin 1024)) = val_main_v18 (F := Ideal) x2 x3 x4 x5 x6 x7 (ix2 t k) := by
  unfold val_main_v20
  generalize val_main_v18 (F := Ideal) x2 x3 x4 x5 x6 x7 = w
  pointwise [val_main_v19]

/-- The projected output. -/
theorem dotAll (t : Fin 32768) (d : Fin 1024) :
    val_main_v26 (F := Ideal) x1 x2 x3 x4 x5 x6 x7 x9 x10 (ix2 t d) =
      ∑ k : Fin 1024, val_main_v20 (F := Ideal) x1 x2 x3 x4 x5 x6 x7 (ix2 t k) * x9 (ix3 0 k d) + x10 (ix2 0 d) := by
  unfold val_main_v26 val_main_v22
  generalize val_main_v20 (F := Ideal) x1 x2 x3 x4 x5 x6 x7 = w
  pointwise [val_main_v21, val_main_v23, val_main_v24, val_main_v25]

/-- A sum over both mixers' lanes is the sum of the two halves. -/
theorem sum_halves (f : Fin 1024 → EReal) :
    ∑ k, f k = ∑ k : Fin 512, f ⟨k.val, by omega⟩ + ∑ k : Fin 512, f ⟨512 + k.val, by omega⟩ :=
  (Fin.sum_univ_add (a := 512) (b := 512) f).trans rfl

/-- The row after the mixers. -/
theorem att (t : Fin 32768) (d : Fin 1024) :
    val_main_v41 (F := Ideal) x0 x1 x2 x3 x4 x5 x6 x7 x9 x10 x11 (ix2 t d) =
      Last.attRow (fun k => x0 (ix2 t k)) (fun k => x1 (ix2 t k))
        (fun k => Last.merged (x5 (ix2 t k)) (x6 (ix2 t k)) (x7 (ix2 t k)) (x2 (ix2 t k)) (x3 (ix2 t k)) (x4 (ix2 t k)))
        (fun k d => x9 (ix3 0 (⟨k.val, by omega⟩ : Fin 1024) d)) (fun k d => x9 (ix3 0 (⟨512 + k.val, by omega⟩ : Fin 1024) d))
        (fun k => x10 (ix2 0 k)) (fun k => x11 (ix2 0 k)) d := by
  have e : ∀ d, val_main_v26 (F := Ideal) x1 x2 x3 x4 x5 x6 x7 x9 x10 (ix2 t d) = _ := fun d =>
    (dotAll x1 x2 x3 x4 x5 x6 x7 x9 x10 t d).trans (congrArg (· + x10 (ix2 0 d)) (sum_halves _))
  simp only [mixLo, mixHi, mixB] at e
  have h : val_main_v41 (F := Ideal) x0 x1 x2 x3 x4 x5 x6 x7 x9 x10 x11 (ix2 t d) = x0 (ix2 t d) +
      rms (fun d => val_main_v26 (F := Ideal) x1 x2 x3 x4 x5 x6 x7 x9 x10 (ix2 t d)) (fun k => x11 (ix2 0 k)) d := by
    clear e
    unfold val_main_v41 val_main_v40 val_main_v37 val_main_v36 val_main_v35 val_main_v34 val_main_v32 val_main_v30 val_main_v29 val_main_v28
    generalize val_main_v26 (F := Ideal) x1 x2 x3 x4 x5 x6 x7 x9 x10 = w
    pointwise [val_main_v27, val_main_cst, val_main_cst_0, val_main_cst_1, val_main_v31, val_main_v33, val_main_v38, val_main_v39]
    rfl
  rw [h]
  unfold Last.attRow
  simp only [e]

/-- A normalised row. -/
theorem norm1 (t : Fin 32768) (d : Fin 1024) :
    val_main_v55 (F := Ideal) x0 x1 x2 x3 x4 x5 x6 x7 x9 x10 x11 x12 (ix2 t d) =
      rms (fun k => val_main_v41 (F := Ideal) x0 x1 x2 x3 x4 x5 x6 x7 x9 x10 x11 (ix2 t k)) (fun k => x12 (ix2 0 k)) d := by
  pointwise [val_main_v42, val_main_v43, val_main_v44, val_main_v45, val_main_v46, val_main_v47, val_main_v48, val_main_v49, val_main_v50, val_main_v51, val_main_v52, val_main_v53, val_main_v54, val_main_v55, val_main_cst_2, val_main_cst_3, val_main_cst_4]
  rfl

/-- The gated activations. -/
theorem act (t : Fin 32768) (c : Fin 2816) :
    val_main_v68 (F := Ideal) x0 x1 x2 x3 x4 x5 x6 x7 x9 x10 x11 x12 x13 (ix2 t c) =
      actRow 2816 rfl (fun k => val_main_v55 (F := Ideal) x0 x1 x2 x3 x4 x5 x6 x7 x9 x10 x11 x12 (ix2 t k)) (fun k j => x13 (ix3 0 k j)) c := by
  pointwise [val_main_v56, val_main_v58, val_main_v59, val_main_v60, val_main_v61, val_main_v62, val_main_v63, val_main_v64, val_main_v65, val_main_v66, val_main_v67, val_main_v68, val_main_cst_5, val_main_cst_6]
  rfl

/-- The block's output. -/
theorem ff (t : Fin 32768) (d : Fin 1024) :
    val_main_v69 (F := Ideal) x0 x1 x2 x3 x4 x5 x6 x7 x9 x10 x11 x12 x13 x14 (ix2 t d) =
      ∑ c : Fin 2816, val_main_v68 (F := Ideal) x0 x1 x2 x3 x4 x5 x6 x7 x9 x10 x11 x12 x13 (ix2 t c) * x14 (ix3 0 c d) := by
  pointwise [val_main_v57, val_main_v69]

/-- A normalised row. -/
theorem norm2 (t : Fin 32768) (d : Fin 1024) :
    val_main_v83 (F := Ideal) x0 x1 x2 x3 x4 x5 x6 x7 x9 x10 x11 x12 x13 x14 x15 (ix2 t d) =
      rms (fun k => val_main_v69 (F := Ideal) x0 x1 x2 x3 x4 x5 x6 x7 x9 x10 x11 x12 x13 x14 (ix2 t k)) (fun k => x15 (ix2 0 k)) d := by
  pointwise [val_main_v70, val_main_v71, val_main_v72, val_main_v73, val_main_v74, val_main_v75, val_main_v76, val_main_v77, val_main_v78, val_main_v79, val_main_v80, val_main_v81, val_main_v82, val_main_v83, val_main_cst_7, val_main_cst_8, val_main_cst_9]
  rfl

/-- The row after the feed-forward block. -/
theorem ffn (t : Fin 32768) (d : Fin 1024) :
    val_main_v86 (F := Ideal) x0 x1 x2 x3 x4 x5 x6 x7 x9 x10 x11 x12 x13 x14 x15 (ix2 t d) =
      ffnRow (fun k => val_main_v41 (F := Ideal) x0 x1 x2 x3 x4 x5 x6 x7 x9 x10 x11 (ix2 t k)) (fun k => x12 (ix2 0 k)) (fun k j => x13 (ix3 0 k j))
        (fun k j => x14 (ix3 0 k j)) (fun k => x15 (ix2 0 k)) d := by
  pointwise [val_main_cst_10, val_main_v84, val_main_v85, val_main_v86]
  rw [norm2]
  simp only [ff, act, norm1]
  rfl

/-- A normalised row. -/
theorem norm3 (t : Fin 32768) (d : Fin 1024) :
    val_main_v100 (F := Ideal) x0 x1 x2 x3 x4 x5 x6 x7 x9 x10 x11 x12 x13 x14 x15 x16 (ix2 t d) =
      rms (fun k => val_main_v86 (F := Ideal) x0 x1 x2 x3 x4 x5 x6 x7 x9 x10 x11 x12 x13 x14 x15 (ix2 t k)) (fun k => x16 (ix2 0 k)) d := by
  pointwise [val_main_v87, val_main_v88, val_main_v89, val_main_v90, val_main_v91, val_main_v92, val_main_v93, val_main_v94, val_main_v95, val_main_v96, val_main_v97, val_main_v98, val_main_v99, val_main_v100, val_main_cst_11, val_main_cst_12, val_main_cst_13]
  rfl

/-- The embedding's gate. -/
theorem gate (t : Fin 32768) (d : Fin 1024) :
    val_main_v108 (F := Ideal) x0 x1 x2 x3 x4 x5 x6 x7 x9 x10 x11 x12 x13 x14 x15 x16 x17 (ix2 t d) =
      sig (∑ k : Fin 1024, val_main_v100 (F := Ideal) x0 x1 x2 x3 x4 x5 x6 x7 x9 x10 x11 x12 x13 x14 x15 x16 (ix2 t k) * x17 (ix3 0 k d)) := by
  pointwise [val_main_v101, val_main_v102, val_main_v103, val_main_v104, val_main_v105, val_main_v106, val_main_v107, val_main_v108, val_main_cst_14, val_main_cst_15]
  rfl

/-- The projected embedding. -/
theorem emb (t : Fin 32768) (d : Fin 1024) :
    val_main_v112 (F := Ideal) x8 x18 (ix2 t d) =
      ∑ k : Fin 256, x8 (ix4 0 (⟨t.val / 4096, by omega⟩ : Fin 8) (⟨t.val % 4096, by omega⟩ : Fin 4096) k) * x18 (ix3 0 k d) := by
  pointwise [val_main_v109, val_main_v110, val_main_v111, val_main_v112]

/-- The gated embedding's normalised row. -/
theorem norm4 (t : Fin 32768) (d : Fin 1024) :
    val_main_v127 (F := Ideal) x0 x1 x2 x3 x4 x5 x6 x7 x8 x9 x10 x11 x12 x13 x14 x15 x16 x17 x18 x19 (ix2 t d) =
      rms (fun k => val_main_v108 (F := Ideal) x0 x1 x2 x3 x4 x5 x6 x7 x9 x10 x11 x12 x13 x14 x15 x16 x17 (ix2 t k) * val_main_v112 (F := Ideal) x8 x18 (ix2 t k)) (fun k => x19 (ix2 0 k)) d := by
  pointwise [val_main_v113, val_main_v114, val_main_v115, val_main_v116, val_main_v117, val_main_v118, val_main_v119, val_main_v120, val_main_v121, val_main_v122, val_main_v123, val_main_v124, val_main_v125, val_main_v126, val_main_v127, val_main_cst_16, val_main_cst_17, val_main_cst_18]
  rfl

/-- The last row. -/
theorem last (t : Fin 32768) (d : Fin 1024) :
    val_main_v128 (F := Ideal) x0 x1 x2 x3 x4 x5 x6 x7 x8 x9 x10 x11 x12 x13 x14 x15 x16 x17 x18 x19 (ix2 t d) =
      gateRow (fun k => val_main_v86 (F := Ideal) x0 x1 x2 x3 x4 x5 x6 x7 x9 x10 x11 x12 x13 x14 x15 (ix2 t k)) (fun k => x16 (ix2 0 k)) (fun k j => x17 (ix3 0 k j))
        (fun k => x8 (ix4 0 (⟨t.val / 4096, by omega⟩ : Fin 8) (⟨t.val % 4096, by omega⟩ : Fin 4096) k))
        (fun k j => x18 (ix3 0 k j)) (fun k => x19 (ix2 0 k)) d := by
  pointwise [val_main_v128]
  rw [norm4]
  simp only [gate, emb, norm3]
  rfl

/-- The result, one sequence after another. -/
theorem res (b : Fin 8) (s : Fin 4096) (d : Fin 1024) :
    val_main_v129 (F := Ideal) x0 x1 x2 x3 x4 x5 x6 x7 x8 x9 x10 x11 x12 x13 x14 x15 x16 x17 x18 x19 (ix3 b s d) =
      val_main_v128 (F := Ideal) x0 x1 x2 x3 x4 x5 x6 x7 x8 x9 x10 x11 x12 x13 x14 x15 x16 x17 x18 x19 (ix2 (⟨b.val * 4096 + s.val, by omega⟩ : Fin 32768) d) := by
  unfold val_main_v129
  generalize val_main_v128 (F := Ideal) x0 x1 x2 x3 x4 x5 x6 x7 x8 x9 x10 x11 x12 x13 x14 x15 x16 x17 x18 x19 = w
  pointwise []

end Layer.LastRef
-- ==== Proof.LastClaim.lean ====
module

public import proofs.«01_k».proof.Proof.LastArr
public import proofs.«01_k».proof.Proof.RefLast
public import proofs.«01_k».proof.Defs

@[expose] public section

set_option maxRecDepth 16384

noncomputable section

/-!
The last stage: kernel and reference end with equal results.
-/

namespace Layer.Last

open Cert.Kernel3Ideal Cert.Kernel3Ideal.Gen Idealize.ShloMosaic Idealize.ShloMosaic.TcCoe Idealize.SL Idealize.SL.Sem
open Cert.Reference3Ideal.Read
open scoped BigOperators

variable (m : (ℓ : Loc nD τ Cert.Kernel3Ideal.sig) → Buf (Elt Ideal) ℓ)

variable (x0 : (⟨S32768x1024, .f32⟩ : BufTy).Contents (Elt Ideal))
  (x1 : (⟨S32768x512, .bf16⟩ : BufTy).Contents (Elt Ideal))
  (x2 : (⟨S32768x512, .bf16⟩ : BufTy).Contents (Elt Ideal))
  (x3 : (⟨S32768x512, .bf16⟩ : BufTy).Contents (Elt Ideal))
  (x4 : (⟨S32768x512, .bf16⟩ : BufTy).Contents (Elt Ideal))
  (x5 : (⟨S32768x512, .f32⟩ : BufTy).Contents (Elt Ideal))
  (x6 : (⟨S32768x512, .f32⟩ : BufTy).Contents (Elt Ideal))
  (x7 : (⟨S32768x512, .f32⟩ : BufTy).Contents (Elt Ideal))
  (x8 : (⟨S1x8x4096x256, .f32⟩ : BufTy).Contents (Elt Ideal))
  (x9 : (⟨S1x1024x1024, .f32⟩ : BufTy).Contents (Elt Ideal))
  (x10 : (⟨S1x1024, .f32⟩ : BufTy).Contents (Elt Ideal))
  (x11 : (⟨S1x1024, .f32⟩ : BufTy).Contents (Elt Ideal))
  (x12 : (⟨S1x1024, .f32⟩ : BufTy).Contents (Elt Ideal))
  (x13 : (⟨S1x1024x5632, .f32⟩ : BufTy).Contents (Elt Ideal))
  (x14 : (⟨S1x2816x1024, .f32⟩ : BufTy).Contents (Elt Ideal))
  (x15 : (⟨S1x1024, .f32⟩ : BufTy).Contents (Elt Ideal))
  (x16 : (⟨S1x1024, .f32⟩ : BufTy).Contents (Elt Ideal))
  (x17 : (⟨S1x1024x1024, .f32⟩ : BufTy).Contents (Elt Ideal))
  (x18 : (⟨S1x256x1024, .f32⟩ : BufTy).Contents (Elt Ideal))
  (x19 : (⟨S1x1024, .f32⟩ : BufTy).Contents (Elt Ideal))

/-- A token's last row in the reference. -/
theorem row3_ref (t : Fin 32768) (d : Fin 1024) :
    val_main_v128 (F := Ideal) x0 x1 x2 x3 x4 x5 x6 x7 x8 x9 x10 x11 x12 x13 x14 x15 x16 x17 x18 x19 (ix2 t d) = row3 x0 x1 x2 x3 x4 x5 x6 x7 x8 x9 x10 x11 x12 x13 x14 x15 x16 x17 x18 x19 t d :=
  (LastRef.last x0 x1 x2 x3 x4 x5 x6 x7 x8 x9 x10 x11 x12 x13 x14 x15 x16 x17 x18 x19 t d).trans
    (gate_congr
      (fun k => (LastRef.ffn x0 x1 x2 x3 x4 x5 x6 x7 x9 x10 x11 x12 x13 x14 x15 t k).trans
        (ffn_congr (fun j => LastRef.att x0 x1 x2 x3 x4 x5 x6 x7 x9 x10 x11 t j) (fun _ => rfl) (fun _ _ => rfl) (fun _ _ => rfl) (fun _ => rfl) k))
      (fun _ => rfl) (fun _ _ => rfl) (fun _ => rfl) (fun _ _ => rfl) (fun _ => rfl) d)

variable (m' : (ℓ : Loc Cert.Reference3Ideal.nD Cert.Reference3Ideal.τ Cert.Reference3Ideal.sig) → Buf (Elt Ideal) ℓ)

/-- The two programs' arguments agree. -/
def Agree : Prop := ∀ c : Dev nD,
  m' ((c.tc : Thread Cert.Reference3Ideal.nD Cert.Reference3Ideal.τ).loc Cert.Reference3Ideal.main_arg0) = m ((c.tc : Thread nD τ).loc main_arg0)
  ∧ m' ((c.tc : Thread Cert.Reference3Ideal.nD Cert.Reference3Ideal.τ).loc Cert.Reference3Ideal.main_arg1) = m ((c.tc : Thread nD τ).loc main_arg1)
  ∧ m' ((c.tc : Thread Cert.Reference3Ideal.nD Cert.Reference3Ideal.τ).loc Cert.Reference3Ideal.main_arg2) = m ((c.tc : Thread nD τ).loc main_arg2)
  ∧ m' ((c.tc : Thread Cert.Reference3Ideal.nD Cert.Reference3Ideal.τ).loc Cert.Reference3Ideal.main_arg3) = m ((c.tc : Thread nD τ).loc main_arg3)
  ∧ m' ((c.tc : Thread Cert.Reference3Ideal.nD Cert.Reference3Ideal.τ).loc Cert.Reference3Ideal.main_arg4) = m ((c.tc : Thread nD τ).loc main_arg4)
  ∧ m' ((c.tc : Thread Cert.Reference3Ideal.nD Cert.Reference3Ideal.τ).loc Cert.Reference3Ideal.main_arg5) = m ((c.tc : Thread nD τ).loc main_arg5)
  ∧ m' ((c.tc : Thread Cert.Reference3Ideal.nD Cert.Reference3Ideal.τ).loc Cert.Reference3Ideal.main_arg6) = m ((c.tc : Thread nD τ).loc main_arg6)
  ∧ m' ((c.tc : Thread Cert.Reference3Ideal.nD Cert.Reference3Ideal.τ).loc Cert.Reference3Ideal.main_arg7) = m ((c.tc : Thread nD τ).loc main_arg7)
  ∧ m' ((c.tc : Thread Cert.Reference3Ideal.nD Cert.Reference3Ideal.τ).loc Cert.Reference3Ideal.main_arg8) = m ((c.tc : Thread nD τ).loc main_arg8)
  ∧ m' ((c.tc : Thread Cert.Reference3Ideal.nD Cert.Reference3Ideal.τ).loc Cert.Reference3Ideal.main_arg9) = m ((c.tc : Thread nD τ).loc main_arg9)
  ∧ m' ((c.tc : Thread Cert.Reference3Ideal.nD Cert.Reference3Ideal.τ).loc Cert.Reference3Ideal.main_arg10) = m ((c.tc : Thread nD τ).loc main_arg10)
  ∧ m' ((c.tc : Thread Cert.Reference3Ideal.nD Cert.Reference3Ideal.τ).loc Cert.Reference3Ideal.main_arg11) = m ((c.tc : Thread nD τ).loc main_arg11)
  ∧ m' ((c.tc : Thread Cert.Reference3Ideal.nD Cert.Reference3Ideal.τ).loc Cert.Reference3Ideal.main_arg12) = m ((c.tc : Thread nD τ).loc main_arg12)
  ∧ m' ((c.tc : Thread Cert.Reference3Ideal.nD Cert.Reference3Ideal.τ).loc Cert.Reference3Ideal.main_arg13) = m ((c.tc : Thread nD τ).loc main_arg13)
  ∧ m' ((c.tc : Thread Cert.Reference3Ideal.nD Cert.Reference3Ideal.τ).loc Cert.Reference3Ideal.main_arg14) = m ((c.tc : Thread nD τ).loc main_arg14)
  ∧ m' ((c.tc : Thread Cert.Reference3Ideal.nD Cert.Reference3Ideal.τ).loc Cert.Reference3Ideal.main_arg15) = m ((c.tc : Thread nD τ).loc main_arg15)
  ∧ m' ((c.tc : Thread Cert.Reference3Ideal.nD Cert.Reference3Ideal.τ).loc Cert.Reference3Ideal.main_arg16) = m ((c.tc : Thread nD τ).loc main_arg16)
  ∧ m' ((c.tc : Thread Cert.Reference3Ideal.nD Cert.Reference3Ideal.τ).loc Cert.Reference3Ideal.main_arg17) = m ((c.tc : Thread nD τ).loc main_arg17)
  ∧ m' ((c.tc : Thread Cert.Reference3Ideal.nD Cert.Reference3Ideal.τ).loc Cert.Reference3Ideal.main_arg18) = m ((c.tc : Thread nD τ).loc main_arg18)
  ∧ m' ((c.tc : Thread Cert.Reference3Ideal.nD Cert.Reference3Ideal.τ).loc Cert.Reference3Ideal.main_arg19) = m ((c.tc : Thread nD τ).loc main_arg19)

/-- The result, one sequence after another. -/
def result (c : Dev nD) : Vec Ideal S8x4096x1024 .f32 := fun y =>
  val3 m c ⟨(y 0).val * 4096 + (y 1).val, by have : (y 0).val < 8 := (y 0).isLt; have : (y 1).val < 4096 := (y 1).isLt; omega⟩ (y 2)

theorem row3_eq (h : Agree m m') (c : Dev nD) (t : Fin 32768) :
    row3 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) (m' ((c.tc : Thread Cert.Reference3Ideal.nD Cert.Reference3Ideal.τ).loc Cert.Reference3Ideal.main_arg16)) (m' ((c.tc : Thread Cert.Reference3Ideal.nD Cert.Reference3Ideal.τ).loc Cert.Reference3Ideal.main_arg17)) (m' ((c.tc : Thread Cert.Reference3Ideal.nD Cert.Reference3Ideal.τ).loc Cert.Reference3Ideal.main_arg18)) (m' ((c.tc : Thread Cert.Reference3Ideal.nD Cert.Reference3Ideal.τ).loc Cert.Reference3Ideal.main_arg19)) t = val3 m c t := by
  obtain ⟨e0, e1, e2, e3, e4, e5, e6, e7, e8, e9, e10, e11, e12, e13, e14, e15, e16, e17, e18, e19⟩ := h c
  rw [e0, e1, e2, e3, e4, e5, e6, e7, e8, e9, e10, e11, e12, e13, e14, e15, e16, e17, e18, e19]
  rfl

theorem ref129 (h : Agree m m') (c : Dev nD) :
    val_main_v129 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13)) (m' ((c.tc : Thread Cert.Reference3Ideal.nD Cert.Reference3Ideal.τ).loc Cert.Reference3Ideal.main_arg14)) (m' ((c.tc : Thread Cert.Reference3Ideal.nD Cert.Reference3Ideal.τ).loc Cert.Reference3Ideal.main_arg15)) (m' ((c.tc : Thread Cert.Reference3Ideal.nD Cert.Reference3Ideal.τ).loc Cert.Reference3Ideal.main_arg16)) (m' ((c.tc : Thread Cert.Reference3Ideal.nD Cert.Reference3Ideal.τ).loc Cert.Reference3Ideal.main_arg17)) (m' ((c.tc : Thread Cert.Reference3Ideal.nD Cert.Reference3Ideal.τ).loc Cert.Reference3Ideal.main_arg18)) (m' ((c.tc : Thread Cert.Reference3Ideal.nD Cert.Reference3Ideal.τ).loc Cert.Reference3Ideal.main_arg19)) = result m c := by
  funext y
  idx_vars y
  refine (LastRef.res _ _ _ _ _ _ _ _ _ _ _ _ _ _ _ _ _ _ _ _ y0 y1 y2).trans ?_
  refine (row3_ref _ _ _ _ _ _ _ _ _ _ _ _ _ _ _ _ _ _ _ _ _ y2).trans ?_
  exact congrFun (row3_eq m m' h c _) y2

theorem reshape_last (x : Vec Ideal S32768x1024 .f32) (b : Fin 8) (s : Fin 4096) (d : Fin 1024) :
    shapeCast S8x4096x1024 x shapeCasts_S32768x1024_S8x4096x1024 (ix3 b s d) =
      x (ix2 (⟨b.val * 4096 + s.val, by omega⟩ : Fin 32768) d) := by
  pointwise []

/-- What the host leaves in the result. -/
theorem tail_v25 (c : Dev nD) :
    Pipeline.afterTail₀ cfgs (dats (F := Ideal) m) 0 (V0 m) [hostOps1] c main_v25 = result m c := by
  have e : Pipeline.withArrays cfg0.spec c (V0 (F := Ideal) m c) (fun w => (dats m 0 c).arrAt w cfg0.N) (Proc.devRef .tc main_v24) =
      (dats m 0 c).arrAt 20 cfg0.N := Pipeline.withArrays_arr cfg0.spec launch0.win.arr_inj c _ _ 20
  have e' : Pipeline.afterTail₀ cfgs (dats (F := Ideal) m) 0 (V0 m) [hostOps1] c main_v25 =
      shapeCast S8x4096x1024 (Pipeline.withArrays cfg0.spec c (V0 (F := Ideal) m c) (fun w => (dats m 0 c).arrAt w cfg0.N) (Proc.devRef .tc main_v24))
        shapeCasts_S32768x1024_S8x4096x1024 := by
    unfold Pipeline.afterTail₀
    generalize Pipeline.withArrays (cfgs 0).spec c (V0 (F := Ideal) m c) (fun w => (dats m 0 c).arrAt w (cfgs 0).N) = W
    change StableHlo.after hostOps1 W (Proc.devRef .tc main_v25) = _
    unfold_abbrev_sides
    after_results
    rfl
  rw [e', e, final20]
  funext y
  idx_vars y
  exact reshape_last _ y0 y1 y2

theorem algebraic : Cert.algebraic_Kernel3Ideal_Reference3Ideal
    (hKernel3Ideal := Cert.Kernel3Ideal.Gen.facts) (hReference3Ideal := Cert.Reference3Ideal.Gen.facts) := by
  intro m g m' g' _ hargs
  refine ⟨result m, ?_, ?_⟩
  · refine (θ_run _ _ _).mono (fun r h c => ?_) (θ_run_and (run_main (F := Ideal) m g) (unchanged (F := Ideal) m g))
    exact ⟨(h.1.rest_eq c main_v25 (by decide)).trans (tail_v25 m c), h.2 c⟩
  · refine (θ_run _ _ _).mono (fun r h c => ?_) (Cert.Reference3Ideal.Value.run (F := Ideal) m' g')
    obtain ⟨h0, rest⟩ := h c
    exact ⟨h0.trans ((val_main_v129_eq _).trans (ref129 m m' hargs c)), rest⟩

end Layer.Last
-- ==== Proof.Pair.lean ====
module

public import proofs.«01_k».proof.Proof.Soft

@[expose] public section

noncomputable section

/-!
Attention of a row over 256 keys, with two heads in one row of 128 lanes.
-/

namespace Layer

open Idealize.ShloMosaic
open scoped BigOperators

/-- The logits of a row of 64 lanes over 256 keys. -/
def tileLog (q : Fin 64 → EReal) (k : Fin 256 → Fin 64 → EReal) (tb : Fin 256 → EReal) (kk : Fin 256) : EReal :=
  (∑ d, q d * k kk d) + tb kk

/-! ### Two heads in one row of lanes -/

/-- The logits of a row of 128 lanes over 256 keys. -/
def pairLog (q : Fin 128 → EReal) (k : Fin 256 → Fin 128 → EReal) (tb : Fin 256 → EReal) (kk : Fin 256) : EReal :=
  (∑ l, q l * k kk l) + tb kk

/-- Lanes kept below 64, zero above. -/
def lowHalf (k : Fin 256 → Fin 128 → EReal) (kk : Fin 256) (l : Fin 128) : EReal := if l.val < 64 then k kk l else 0

/-- Lanes kept from 64 on, zero below. -/
def highHalf (k : Fin 256 → Fin 128 → EReal) (kk : Fin 256) (l : Fin 128) : EReal := if l.val < 64 then 0 else k kk l

/-- Lane `d` of half `p`. -/
def lane (p : Fin 2) (d : Fin 64) : Fin 128 := ⟨p.val * 64 + d.val, by omega⟩

theorem sum_lanes (f : Fin 128 → EReal) : ∑ l, f l = (∑ d, f (lane 0 d)) + ∑ d, f (lane 1 d) := by
  have h := Fin.sum_univ_add (a := 64) (b := 64) f
  rw [h]
  refine congrArg₂ (· + ·) (Finset.sum_congr rfl fun d _ => congrArg f ?_) (Finset.sum_congr rfl fun d _ => congrArg f ?_)
  · apply Fin.ext; simp [lane]
  · apply Fin.ext; simp [lane, Nat.add_comm]

theorem pairLog_low (q : Fin 128 → EReal) (k : Fin 256 → Fin 128 → EReal) (tb : Fin 256 → EReal) :
    pairLog q (lowHalf k) tb = tileLog (fun d => q (lane 0 d)) (fun kk d => k kk (lane 0 d)) tb := by
  funext kk
  unfold pairLog tileLog
  rw [sum_lanes, Finset.sum_eq_zero (s := Finset.univ) (f := fun d => q (lane 1 d) * lowHalf k kk (lane 1 d)), add_zero]
  · refine congrArg (· + _) (Finset.sum_congr rfl fun d _ => ?_)
    unfold lowHalf; rw [if_pos (by simp [lane])]
  · intro d _
    unfold lowHalf; rw [if_neg (by simp [lane]), mul_zero]

theorem pairLog_high (q : Fin 128 → EReal) (k : Fin 256 → Fin 128 → EReal) (tb : Fin 256 → EReal) :
    pairLog q (highHalf k) tb = tileLog (fun d => q (lane 1 d)) (fun kk d => k kk (lane 1 d)) tb := by
  funext kk
  unfold pairLog tileLog
  rw [sum_lanes, Finset.sum_eq_zero (s := Finset.univ) (f := fun d => q (lane 0 d) * highHalf k kk (lane 0 d)), zero_add]
  · refine congrArg (· + _) (Finset.sum_congr rfl fun d _ => ?_)
    unfold highHalf; rw [if_neg (by simp [lane])]
  · intro d _
    unfold highHalf; rw [if_pos (by simp [lane]), mul_zero]

/-- The output scaled by the head's share against a sink logit. -/
def sinkOut {n : ℕ} (l v : Fin n → EReal) (s : EReal) : EReal :=
  softOut l v * Ideal.div (Ideal.exp (softMax l - max (softMax l) s))
    (softDen l * Ideal.exp (softMax l - max (softMax l) s) + Ideal.exp (s - max (softMax l) s))

theorem sinkOut_zero {n : ℕ} (l : Fin n → EReal) (s : EReal) : sinkOut l (fun _ => 0) s = 0 := by
  unfold sinkOut; rw [softOut_zero, zero_mul]

theorem lowHalf_lane0 (v : Fin 256 → Fin 128 → EReal) (d : Fin 64) :
    (fun kk => lowHalf v kk (lane 0 d)) = fun kk => v kk (lane 0 d) := by
  funext kk; unfold lowHalf; rw [if_pos (by simp [lane])]

theorem lowHalf_lane1 (v : Fin 256 → Fin 128 → EReal) (d : Fin 64) :
    (fun kk => lowHalf v kk (lane 1 d)) = fun _ => 0 := by
  funext kk; unfold lowHalf; rw [if_neg (by simp [lane])]

theorem highHalf_lane0 (v : Fin 256 → Fin 128 → EReal) (d : Fin 64) :
    (fun kk => highHalf v kk (lane 0 d)) = fun _ => 0 := by
  funext kk; unfold highHalf; rw [if_pos (by simp [lane])]

theorem highHalf_lane1 (v : Fin 256 → Fin 128 → EReal) (d : Fin 64) :
    (fun kk => highHalf v kk (lane 1 d)) = fun kk => v kk (lane 1 d) := by
  funext kk; unfold highHalf; rw [if_neg (by simp [lane])]

end Layer
-- ==== Proof.MixPay.lean ====
module

public import proofs.«01_k».proof.Proof.Pair
public import proofs.«01_k».proof.Proof.Gen.KernelIdeal.Skeleton
public import Idealize.ShloMosaic.Lib.Pointwise

@[expose] public section

set_option maxRecDepth 16384

noncomputable section

/-!
What the first mixer's kernel stores in one tile of 128 rows and 128 lanes, at an index.
-/

namespace Layer.Mix

open Cert.KernelIdeal Cert.KernelIdeal.Gen Idealize.ShloMosaic
open scoped BigOperators

/-- The logits of a tile of rows over its 256 keys. -/
def logits (q : FVec Ideal S128x128 .bf16) (k : FVec Ideal S256x128 .bf16) (b : Vec Ideal S1x128x256 .f32) :
    FVec Ideal S128x256 .f32 :=
  addf (matmul dot_S128x128_S256x128_S128x256_1_1_0_0_n_n none q k (constant S128x256 .f32 0x00000000#32))
    (shapeCast S128x256 b shapeCasts_S1x128x256_S128x256)

/-- Each row's largest logit. -/
def peak (l : FVec Ideal S128x256 .f32) : FVec Ideal S128x1 .f32 :=
  shapeCast S128x1 (multiReduction .maximumf [1] S128 l 0xFF800000#32 reduces_S128x256_S128 (.inl rfl) rfl) shapeCasts_S128_S128x1

/-- The weights. -/
def weights (l : FVec Ideal S128x256 .f32) : FVec Ideal S128x256 .f32 :=
  exp (subf l (broadcastTo S128x256 (peak l) broadcasts_S128x1_S128x256))

/-- The head's share against its sink, from the largest logits and the weights. -/
def share (m : FVec Ideal S128x1 .f32) (w : FVec Ideal S128x256 .f32) (s : Elt Ideal .f32) : FVec Ideal S128x1 .f32 :=
  divf (exp (subf m (maximumf m (broadcast S128x1 s))))
    (addf (mulf (shapeCast S128x1 (multiReduction .add [1] S128 w 0x00000000#32 reduces_S128x256_S128 (.inl rfl) rfl)
        shapeCasts_S128_S128x1) (exp (subf m (maximumf m (broadcast S128x1 s)))))
      (exp (subf (broadcast S128x1 s) (maximumf m (broadcast S128x1 s)))))

/-- One head of a tile, from its largest logits and its weights. -/
def headOf (m : FVec Ideal S128x1 .f32) (w : FVec Ideal S128x256 .f32) (v : FVec Ideal S256x128 .bf16)
    (s : Elt Ideal .f32) : FVec Ideal S128x128 .f32 :=
  mulf (matmul dot_S128x256_S256x128_S128x128_1_0_0_1_n_n none (truncf .bf16 w bitsLt_bf16_f32) v
      (constant S128x128 .f32 0x00000000#32))
    (broadcastTo S128x128 (share m w s) broadcasts_S128x1_S128x128)

/-- One head of a tile. -/
def head (q : FVec Ideal S128x128 .bf16) (k v : FVec Ideal S256x128 .bf16) (b : Vec Ideal S1x128x256 .f32)
    (s : Elt Ideal .f32) : FVec Ideal S128x128 .f32 :=
  headOf (peak (logits q k b)) (weights (logits q k b)) v s

/-- A tile: the sum of two heads that lie in its two halves of the lanes. -/
def tile (q : Vec Ideal S1x1x128x128 .bf16) (k v k' v' : FVec Ideal S256x128 .bf16) (b b' : Vec Ideal S1x128x256 .f32)
    (s s' : Elt Ideal .f32) : FVec Ideal S1x128x128 .bf16 :=
  shapeCast S1x128x128
    (truncf .bf16 (addf (head (shapeCast S128x128 q shapeCasts_S1x1x128x128_S128x128) k v b s)
      (head (shapeCast S128x128 q shapeCasts_S1x1x128x128_S128x128) k' v' b' s')) bitsLt_bf16_f32)
    shapeCasts_S128x128_S1x128x128

theorem logits_apply (q : FVec Ideal S128x128 .bf16) (k : FVec Ideal S256x128 .bf16) (b : Vec Ideal S1x128x256 .f32)
    (r : Fin 128) (kk : Fin 256) :
    logits q k b (ix2 r kk) = pairLog (fun l => q (ix2 r l)) (fun kk l => k (ix2 kk l)) (fun kk => b (ix3 0 r kk)) kk := by
  pointwise [logits]
  rfl

theorem peak_apply (l : FVec Ideal S128x256 .f32) (r : Fin 128) :
    peak l (ix2 r 0) = softMax (fun kk => l (ix2 r kk)) := by
  pointwise [peak]
  rfl

theorem weights_apply (l : FVec Ideal S128x256 .f32) (r : Fin 128) (kk : Fin 256) :
    weights l (ix2 r kk) = softW (peak l (ix2 r 0)) (l (ix2 r kk)) := by
  pointwise [weights]
  rfl

theorem share_apply (m : FVec Ideal S128x1 .f32) (w : FVec Ideal S128x256 .f32) (s : Elt Ideal .f32) (r : Fin 128) :
    share m w s (ix2 r 0) = Ideal.div (Ideal.exp (m (ix2 r 0) - max (m (ix2 r 0)) s))
      ((∑ kk : Fin 256, w (ix2 r kk)) * Ideal.exp (m (ix2 r 0) - max (m (ix2 r 0)) s) +
        Ideal.exp (s - max (m (ix2 r 0)) s)) := by
  pointwise [share]

theorem headOf_apply (m : FVec Ideal S128x1 .f32) (w : FVec Ideal S128x256 .f32) (v : FVec Ideal S256x128 .bf16)
    (s : Elt Ideal .f32) (r l : Fin 128) :
    headOf m w v s (ix2 r l) = (∑ kk : Fin 256, w (ix2 r kk) * v (ix2 kk l)) * share m w s (ix2 r 0) := by
  pointwise [headOf]

/-- One head of a tile at an index. -/
theorem head_apply (q : FVec Ideal S128x128 .bf16) (k v : FVec Ideal S256x128 .bf16) (b : Vec Ideal S1x128x256 .f32)
    (s : Elt Ideal .f32) (r l : Fin 128) :
    head q k v b s (ix2 r l) =
      sinkOut (pairLog (fun l => q (ix2 r l)) (fun kk l => k (ix2 kk l)) (fun kk => b (ix3 0 r kk)))
        (fun kk => v (ix2 kk l)) s := by
  unfold head
  rw [headOf_apply, share_apply, peak_apply]
  simp only [weights_apply, peak_apply, logits_apply]
  rfl

/-- A tile at an index. -/
theorem tile_apply (q : Vec Ideal S1x1x128x128 .bf16) (k v k' v' : FVec Ideal S256x128 .bf16)
    (b b' : Vec Ideal S1x128x256 .f32) (s s' : Elt Ideal .f32) (r l : Fin 128) :
    tile q k v k' v' b b' s s' (ix3 0 r l) =
      sinkOut (pairLog (fun l => q (ix4 0 0 r l)) (fun kk l => k (ix2 kk l)) (fun kk => b (ix3 0 r kk)))
        (fun kk => v (ix2 kk l)) s +
      sinkOut (pairLog (fun l => q (ix4 0 0 r l)) (fun kk l => k' (ix2 kk l)) (fun kk => b' (ix3 0 r kk)))
        (fun kk => v' (ix2 kk l)) s' := by
  pointwise [tile]
  rw [head_apply, head_apply]
  pointwise []

end Layer.Mix
-- ==== Proof.MixKeys.lean ====
module

public import proofs.«01_k».proof.Proof.MixPay

@[expose] public section

set_option maxRecDepth 16384

noncomputable section

/-!
The first mixer's keys and values, each kept in one half of the lanes.
-/

namespace Layer.Mix

open Cert.KernelIdeal Cert.KernelIdeal.Gen Idealize.ShloMosaic
open scoped BigOperators

/-- The keys and values of a point's 640 rows: the 128 rows before its block and the block's own. -/
def kv (A : Vec Ideal S1x128x256 .bf16) (B : Vec Ideal S1x512x256 .bf16) (j : Fin 640) (c : Fin 256) : EReal :=
  if h : j.val < 128 then A (ix3 0 ⟨j.val, h⟩ c) else B (ix3 0 ⟨j.val - 128, by omega⟩ c)

theorem pay3 (A : Vec Ideal S1x128x256 .bf16) (B : Vec Ideal S1x512x256 .bf16) (j : Fin 640) (c : Fin 256) :
    k0_pay3 (F := Ideal) A B (ix2 j c) = kv A B j c := by
  pointwise [k0_pay3]
  rfl

theorem pay2 (j : Fin 640) (l : Fin 128) : k0_pay2 (ix2 j l) = if l.val < 64 then 1#1 else 0#1 := by
  pointwise [k0_pay2]
  revert l
  decide

theorem pay4 (A : Vec Ideal S1x128x256 .bf16) (B : Vec Ideal S1x512x256 .bf16) (j : Fin 640) (l : Fin 128) :
    k0_pay4 (F := Ideal) A B (ix2 j l) = kv A B j ⟨l.val, by omega⟩ := by
  rw [← pay3]
  pointwise [k0_pay4]

theorem pay5 (A : Vec Ideal S1x128x256 .bf16) (B : Vec Ideal S1x512x256 .bf16) (j : Fin 640) (l : Fin 128) :
    k0_pay5 (F := Ideal) A B (ix2 j l) = kv A B j ⟨128 + l.val, by omega⟩ := by
  rw [← pay3]
  pointwise [k0_pay5]

/-- The keys with the halves of their lanes swapped. -/
theorem pay6 (A : Vec Ideal S1x128x256 .bf16) (B : Vec Ideal S1x512x256 .bf16) (j : Fin 640) (l : Fin 128) :
    k0_pay6 (F := Ideal) A B (ix2 j l) = kv A B j ⟨(l.val + 64) % 128, by omega⟩ := by
  pointwise [k0_pay6]
  split
  · exact (pay4 A B j _).trans (congrArg (kv A B j) (Fin.ext (by simp only; omega)))
  · exact (pay4 A B j _).trans (congrArg (kv A B j) (Fin.ext (by simp only; omega)))

/-- The values with the halves of their lanes swapped. -/
theorem pay7 (A : Vec Ideal S1x128x256 .bf16) (B : Vec Ideal S1x512x256 .bf16) (j : Fin 640) (l : Fin 128) :
    k0_pay7 (F := Ideal) A B (ix2 j l) = kv A B j ⟨128 + (l.val + 64) % 128, by omega⟩ := by
  pointwise [k0_pay7]
  split
  · exact (pay5 A B j _).trans (congrArg (kv A B j) (Fin.ext (by simp only; omega)))
  · exact (pay5 A B j _).trans (congrArg (kv A B j) (Fin.ext (by simp only; omega)))

theorem sel_apply (a b : FVec Ideal S640x128 .bf16) (j : Fin 640) (l : Fin 128) :
    select k0_pay2 a b (ix2 j l) = if l.val < 64 then a (ix2 j l) else b (ix2 j l) := by
  pointwise []
  rw [pay2]
  split <;> rfl

theorem pay8 (j : Fin 640) (l : Fin 128) : k0_pay8 (F := Ideal) (ix2 j l) = 0 := by
  pointwise [k0_pay8]

/-- `K` holds 64 columns of the keys and values from column `o` on in its low lanes, and zero in its high ones. -/
def LowOf (A : Vec Ideal S1x128x256 .bf16) (B : Vec Ideal S1x512x256 .bf16) (o : ℕ) (ho : o ≤ 192)
    (K : FVec Ideal S640x128 .bf16) : Prop :=
  ∀ (j : Fin 640) (l : Fin 128), K (ix2 j l) = if l.val < 64 then kv A B j ⟨o + l.val % 64, by omega⟩ else 0

/-- The same with the halves of the lanes changed. -/
def HighOf (A : Vec Ideal S1x128x256 .bf16) (B : Vec Ideal S1x512x256 .bf16) (o : ℕ) (ho : o ≤ 192)
    (K : FVec Ideal S640x128 .bf16) : Prop :=
  ∀ (j : Fin 640) (l : Fin 128), K (ix2 j l) = if l.val < 64 then 0 else kv A B j ⟨o + l.val % 64, by omega⟩

variable (A : Vec Ideal S1x128x256 .bf16) (B : Vec Ideal S1x512x256 .bf16)

theorem low_of (o : ℕ) (ho : o ≤ 192) (a : FVec Ideal S640x128 .bf16)
    (h : ∀ (j : Fin 640) (l : Fin 128), l.val < 64 → a (ix2 j l) = kv A B j ⟨o + l.val % 64, by omega⟩) :
    LowOf A B o ho (select k0_pay2 a (k0_pay8 (F := Ideal))) := fun j l => by
  rw [sel_apply, pay8]
  by_cases hl : l.val < 64
  · rw [if_pos hl, if_pos hl]; exact h j l hl
  · rw [if_neg hl, if_neg hl]

theorem high_of (o : ℕ) (ho : o ≤ 192) (a : FVec Ideal S640x128 .bf16)
    (h : ∀ (j : Fin 640) (l : Fin 128), ¬ l.val < 64 → a (ix2 j l) = kv A B j ⟨o + l.val % 64, by omega⟩) :
    HighOf A B o ho (select k0_pay2 (k0_pay8 (F := Ideal)) a) := fun j l => by
  rw [sel_apply, pay8]
  by_cases hl : l.val < 64
  · rw [if_pos hl, if_pos hl]
  · rw [if_neg hl, if_neg hl]; exact h j l hl

theorem keys0_low : LowOf A B 0 (by omega) (k0_pay9 (F := Ideal) A B) :=
  low_of A B 0 _ _ fun j l hl => (pay4 A B j l).trans (congrArg (kv A B j) (Fin.ext (by simp only; omega)))

theorem keys0_high : HighOf A B 0 (by omega) (k0_pay10 (F := Ideal) A B) :=
  high_of A B 0 _ _ fun j l hl => (pay6 A B j l).trans (congrArg (kv A B j) (Fin.ext (by simp only; omega)))

theorem vals0_low : LowOf A B 128 (by omega) (k0_pay11 (F := Ideal) A B) :=
  low_of A B 128 _ _ fun j l hl => (pay5 A B j l).trans (congrArg (kv A B j) (Fin.ext (by simp only; omega)))

theorem vals0_high : HighOf A B 128 (by omega) (k0_pay12 (F := Ideal) A B) :=
  high_of A B 128 _ _ fun j l hl => (pay7 A B j l).trans (congrArg (kv A B j) (Fin.ext (by simp only; omega)))

theorem keys1_low : LowOf A B 64 (by omega) (k0_pay73 (F := Ideal) k0_pay2 (k0_pay6 A B) k0_pay8) :=
  low_of A B 64 _ _ fun j l hl => (pay6 A B j l).trans (congrArg (kv A B j) (Fin.ext (by simp only; omega)))

theorem keys1_high : HighOf A B 64 (by omega) (k0_pay74 (F := Ideal) k0_pay2 (k0_pay4 A B) k0_pay8) :=
  high_of A B 64 _ _ fun j l hl => (pay4 A B j l).trans (congrArg (kv A B j) (Fin.ext (by simp only; omega)))

theorem vals1_low : LowOf A B 192 (by omega) (k0_pay75 (F := Ideal) k0_pay2 (k0_pay7 A B) k0_pay8) :=
  low_of A B 192 _ _ fun j l hl => (pay7 A B j l).trans (congrArg (kv A B j) (Fin.ext (by simp only; omega)))

theorem vals1_high : HighOf A B 192 (by omega) (k0_pay76 (F := Ideal) k0_pay2 (k0_pay5 A B) k0_pay8) :=
  high_of A B 192 _ _ fun j l hl => (pay5 A B j l).trans (congrArg (kv A B j) (Fin.ext (by simp only; omega)))

end Layer.Mix
-- ==== Proof.MixOut.lean ====
module

public import proofs.«01_k».proof.Proof.MixKeys
public import proofs.«01_k».proof.Proof.Gen.KernelIdeal.Frame
public import Idealize.ShloMosaic.Lib.Pipeline.ValueKit
public import Idealize.ShloMosaic.Lib.Pipeline.ReadBack
public import Idealize.ShloMosaic.Lib.Pipeline.Covers

@[expose] public section

set_option maxRecDepth 16384

noncomputable section

/-!
What a grid point of the first mixer leaves in its block, at an index.
-/

namespace Layer.Mix

open Cert.KernelIdeal Cert.KernelIdeal.Gen Idealize.ShloMosaic Idealize.ShloMosaic.TcCoe Idealize.SL Idealize.SL.Sem
open scoped BigOperators

/-- The table that a head's tile takes: the head's first for the first 128 rows of an array, else its second. -/
def tabRow (ch t h : ℕ) : ℕ := 2 * h + if t = 0 ∧ ch = 0 then 0 else 1

theorem tabRow_lt {ch t h : ℕ} (hh : h < 8) : tabRow ch t h < 16 := by unfold tabRow; split <;> omega

/-- A block's entry in row `r` and lane `l`: the head of the lane attends from the row's queries over 256 keys, those of
the row's 128 and the 128 before. `ch` is the block's place in the array. -/
def blockOut (S : Vec Ideal S8 .f32) (Q : Vec Ideal S1x2x512x256 .bf16) (A : Vec Ideal S1x128x256 .bf16)
    (B : Vec Ideal S1x512x256 .bf16) (T : Vec Ideal S16x128x256 .f32) (ch : ℕ) (r l : Fin 512) : EReal :=
  sinkOut
    (tileLog (fun d => Q (ix4 0 (⟨l.val / 256, by omega⟩ : Fin 2) r (⟨l.val % 256 / 64 * 64 + d.val, by omega⟩ : Fin 256)))
      (fun kk d => kv A B ⟨r.val / 128 * 128 + kk.val, by omega⟩ ⟨l.val / 256 * 64 + d.val, by omega⟩)
      (fun kk => T (ix3 (⟨tabRow ch (r.val / 128) (l.val / 64), tabRow_lt (by omega)⟩ : Fin 16)
        (⟨r.val % 128, by omega⟩ : Fin 128) kk)))
    (fun kk => kv A B ⟨r.val / 128 * 128 + kk.val, by omega⟩ ⟨128 + (l.val / 256 * 64 + l.val % 64), by omega⟩)
    (S (ix1 (⟨l.val / 64, by omega⟩ : Fin 8)))

/-- A tile of rows and two heads, from the reads it is made of. -/
theorem piece (S : Vec Ideal S8 .f32) (Q : Vec Ideal S1x2x512x256 .bf16) (A : Vec Ideal S1x128x256 .bf16)
    (B : Vec Ideal S1x512x256 .bf16) (T : Vec Ideal S16x128x256 .f32) (ch g p t : ℕ) (hg : g < 2) (hp : p < 2) (ht : t < 4)
    {h h' x y ok ov : ℕ} (eh : h = 4 * g + 2 * p) (eh' : h' = 4 * g + 2 * p + 1) (ex : x = p * 128) (ey : y = t * 128)
    (eok : ok = g * 64) (eov : ov = 128 + g * 64) (hok : ok ≤ 192) (hov : ov ≤ 192)
    {K V K' V' : FVec Ideal S640x128 .bf16} (hK : LowOf A B ok hok K) (hV : LowOf A B ov hov V)
    (hK' : HighOf A B ok hok K') (hV' : HighOf A B ov hov V') (hs : S640x128.Slices ![y, 0] S256x128)
    {f f' : Fin 3 → ℕ} (ef : f = ![tabRow ch t h, 0, 0]) (ef' : f' = ![tabRow ch t h', 0, 0])
    (hq : ∀ a, (![0, g, y, x] : Fin 4 → Nat) a + S1x1x128x128.size a ≤ S1x2x512x256.size a)
    (hb : ∀ a, f a + S1x128x256.size a ≤ S16x128x256.size a) (hb' : ∀ a, f' a + S1x128x256.size a ≤ S16x128x256.size a)
    (hi : ∀ a, (![h] : Fin 1 → Nat) a + S1.size a ≤ S8.size a) (hi' : ∀ a, (![h'] : Fin 1 → Nat) a + S1.size a ≤ S8.size a)
    (z : S1.Idx) (r l : Fin 512) (y1 y2 : Fin 128) (er : r.val = y + y1.val)
    (el : l.val = 256 * g + x + y2.val) :
    tile (View.ld Q (Rect.unit ![0, g, y, x] ![1, 1, 128, 128] hq)) (extractStridedSlice S256x128 ![y, 0] K hs)
      (extractStridedSlice S256x128 ![y, 0] V hs) (extractStridedSlice S256x128 ![y, 0] K' hs)
      (extractStridedSlice S256x128 ![y, 0] V' hs) (View.ld T (Rect.unit f ![1, 128, 256] hb))
      (View.ld T (Rect.unit f' ![1, 128, 256] hb')) (View.ld S (Rect.unit ![h] ![1] hi) z)
      (View.ld S (Rect.unit ![h'] ![1] hi') z) (ix3 0 y1 y2) = blockOut S Q A B T ch r l := by
  subst ef ef' eh eh' ex ey eok eov
  have hz : z = ix1 (0 : Fin 1) := by
    funext a; fin_cases a; exact Subsingleton.elim (α := Fin 1) _ _
  subst hz
  have q0 : ∀ l' : Fin 128, View.ld Q (Rect.unit ![0, g, t * 128, p * 128] ![1, 1, 128, 128] hq) (ix4 0 0 y1 l') =
      Q (ix4 0 (⟨g, hg⟩ : Fin 2) r (⟨p * 128 + l'.val, by omega⟩ : Fin 256)) := fun l' => by
    refine View.ld_unit_apply_of _ _ _ _ _ _ fun a => ?_
    fin_cases a
    · simp
    · simp
    · simpa using er
    · simp
  have s0 : ∀ (n : ℕ) (hn : n < 8) (hi : ∀ a, (![n] : Fin 1 → Nat) a + S1.size a ≤ S8.size a),
      View.ld S (Rect.unit ![n] ![1] hi) (ix1 (0 : Fin 1)) = S (ix1 (⟨n, hn⟩ : Fin 8)) := fun n hn hi => by
    refine View.ld_unit_apply_of _ _ _ _ _ _ fun a => ?_
    fin_cases a
    simp
  have t0 : ∀ (n : ℕ) (hn : n < 16) (hb : ∀ a, (![n, 0, 0] : Fin 3 → Nat) a + S1x128x256.size a ≤ S16x128x256.size a)
      (kk : Fin 256), View.ld T (Rect.unit ![n, 0, 0] ![1, 128, 256] hb) (ix3 0 y1 kk) =
        T (ix3 (⟨n, hn⟩ : Fin 16) y1 kk) := fun n hn hb kk => by
    refine View.ld_unit_apply_of _ _ _ _ _ _ fun a => ?_
    fin_cases a
    · simp
    · simp
    · simp
  have c0 : ∀ (K : FVec Ideal S640x128 .bf16) (kk : Fin 256) (l : Fin 128),
      extractStridedSlice S256x128 ![t * 128, 0] K hs (ix2 kk l) = K (ix2 (⟨t * 128 + kk.val, by omega⟩ : Fin 640) l) :=
    fun K kk l => by
      refine extractStridedSlice_apply _ _ _ _ _ fun a => ?_
      fin_cases a
      · simp
      · simp
  rw [tile_apply]
  simp only [q0, t0 _ (tabRow_lt (by omega : 4 * g + 2 * p < 8)), t0 _ (tabRow_lt (by omega : 4 * g + 2 * p + 1 < 8)),
    s0 _ (by omega : 4 * g + 2 * p < 8), s0 _ (by omega : 4 * g + 2 * p + 1 < 8), c0, hK _ _, hV _ _, hK' _ _, hV' _ _]
  have lo := pairLog_low (fun l' : Fin 128 => Q (ix4 0 (⟨g, hg⟩ : Fin 2) r (⟨p * 128 + l'.val, by omega⟩ : Fin 256)))
    (fun (kk : Fin 256) (l' : Fin 128) => kv A B ⟨t * 128 + kk.val, by omega⟩ ⟨g * 64 + l'.val % 64, by omega⟩)
  have hh := pairLog_high (fun l' : Fin 128 => Q (ix4 0 (⟨g, hg⟩ : Fin 2) r (⟨p * 128 + l'.val, by omega⟩ : Fin 256)))
    (fun (kk : Fin 256) (l' : Fin 128) => kv A B ⟨t * 128 + kk.val, by omega⟩ ⟨g * 64 + l'.val % 64, by omega⟩)
  unfold lowHalf at lo
  unfold highHalf at hh
  rw [lo, hh]
  have a1 : r.val / 128 = t := by omega
  have a2 : r.val % 128 = y1.val := by omega
  have a3 : l.val / 256 = g := by omega
  unfold blockOut
  by_cases hl : y2.val < 64
  · have a4 : l.val / 64 = 4 * g + 2 * p := by omega
    have a5 : l.val % 256 / 64 * 64 = p * 128 := by omega
    have a6 : l.val % 64 = y2.val % 64 := by omega
    simp only [if_pos hl, sinkOut_zero, add_zero, a1, a2, a3, a4, a5, a6]
    refine congrArg₂ (fun a b => sinkOut a b _) ?_ ?_
    · funext kk
      unfold tileLog
      refine congrArg₂ (· + ·) (Finset.sum_congr rfl fun d _ => congrArg₂ (· * ·) (congrArg Q ?_) (congrArg (kv A B _) ?_)) rfl
      · refine congrArg (ix4 0 _ r) (Fin.ext ?_); simp [lane]
      · refine Fin.ext ?_; simp [lane]
    · funext kk
      refine congrArg (kv A B _) (Fin.ext ?_); simp; omega
  · have a4 : l.val / 64 = 4 * g + 2 * p + 1 := by omega
    have a5 : l.val % 256 / 64 * 64 = p * 128 + 64 := by omega
    have a6 : l.val % 64 = y2.val % 64 := by omega
    simp only [if_neg hl, sinkOut_zero, zero_add, a1, a2, a3, a4, a5, a6]
    refine congrArg₂ (fun a b => sinkOut a b _) ?_ ?_
    · funext kk
      unfold tileLog
      refine congrArg₂ (· + ·) (Finset.sum_congr rfl fun d _ => congrArg₂ (· * ·) (congrArg Q ?_) (congrArg (kv A B _) ?_)) rfl
      · refine congrArg (ix4 0 _ r) (Fin.ext ?_); simp [lane]; omega
      · refine Fin.ext ?_; simp [lane]
    · funext kk
      refine congrArg (kv A B _) (Fin.ext ?_); simp; omega

/-- The table read for the first 128 rows of a block. -/
theorem off_eq (i : grid0.Coords) (h : ℕ) (hh : h < 8) :
    k0_off1 i (BitVec.ofNat 32 (2 * h)) = ![tabRow (i 1).val 0 h, 0, 0] := by
  have hi : (i 1).val < 8 := (i 1).2
  unfold k0_off1 tabRow
  generalize (i 1).val = n at hi
  interval_cases n <;> interval_cases h <;> rfl

variable (m : (ℓ : Loc nD τ Cert.KernelIdeal.sig) → Buf (Elt Ideal) ℓ)

/-- The block that a point leaves. -/
theorem out5 (c : Dev nD) (t : Fin cfg0.N) (r l : Fin 512) : outsAt0 (F := Ideal) m c t (ix3 0 r l) =
    blockOut (iblk m c 0 t) (iblk m c 1 t) (iblk m c 2 t) (iblk m c 3 t) (iblk m c 4 t) (grid0.coords t 1).val r l := by
  unfold outsAt0
  frame_open
  frame_out
  canon_tiles x h
  all_goals idx_vars x
  all_goals obtain rfl : x0 = 0 := Subsingleton.elim _ _
  · exact (piece (iblk m c 0 t) (iblk m c 1 t) (iblk m c 2 t) (iblk m c 3 t) (iblk m c 4 t) (grid0.coords t 1).val 1 1 3
      (by omega) (by omega) (by omega) rfl rfl rfl rfl rfl rfl (by omega) (by omega) (keys1_low _ _) (vals1_low _ _)
      (keys1_high _ _) (vals1_high _ _) slices_S640x128_o384_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 1 2
      (by omega) (by omega) (by omega) rfl rfl rfl rfl rfl rfl (by omega) (by omega) (keys1_low _ _) (vals1_low _ _)
      (keys1_high _ _) (vals1_high _ _) slices_S640x128_o256_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 1 1
      (by omega) (by omega) (by omega) rfl rfl rfl rfl rfl rfl (by omega) (by omega) (keys1_low _ _) (vals1_low _ _)
      (keys1_high _ _) (vals1_high _ _) slices_S640x128_o128_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 1 0
      (by omega) (by omega) (by omega) rfl rfl rfl rfl rfl rfl (by omega) (by omega) (keys1_low _ _) (vals1_low _ _)
      (keys1_high _ _) (vals1_high _ _) slices_S640x128_o0_0_S256x128 (off_eq _ 6 (by omega)) (off_eq _ 7 (by omega)) _ _ _ _ _ _ r l x1 x2
      (by simpa using h1) (by simpa using h2))
  · exact (piece (iblk m c 0 t) (iblk m c 1 t) (iblk m c 2 t) (iblk m c 3 t) (iblk m c 4 t) (grid0.coords t 1).val 1 0 3
      (by omega) (by omega) (by omega) rfl rfl rfl rfl rfl rfl (by omega) (by omega) (keys1_low _ _) (vals1_low _ _)
      (keys1_high _ _) (vals1_high _ _) slices_S640x128_o384_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 0 2
      (by omega) (by omega) (by omega) rfl rfl rfl rfl rfl rfl (by omega) (by omega) (keys1_low _ _) (vals1_low _ _)
      (keys1_high _ _) (vals1_high _ _) slices_S640x128_o256_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 0 1
      (by omega) (by omega) (by omega) rfl rfl rfl rfl rfl rfl (by omega) (by omega) (keys1_low _ _) (vals1_low _ _)
      (keys1_high _ _) (vals1_high _ _) slices_S640x128_o128_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 1 0 0
      (by omega) (by omega) (by omega) rfl rfl rfl rfl rfl rfl (by omega) (by omega) (keys1_low _ _) (vals1_low _ _)
      (keys1_high _ _) (vals1_high _ _) slices_S640x128_o0_0_S256x128 (off_eq _ 4 (by omega)) (off_eq _ 5 (by omega)) _ _ _ _ _ _ r l x1 x2
      (by simpa using h1) (by simpa using h2))
  · exact (piece (iblk m c 0 t) (iblk m c 1 t) (iblk m c 2 t) (iblk m c 3 t) (iblk m c 4 t) (grid0.coords t 1).val 0 1 3
      (by omega) (by omega) (by omega) rfl rfl rfl rfl rfl rfl (by omega) (by omega) (keys0_low _ _) (vals0_low _ _)
      (keys0_high _ _) (vals0_high _ _) slices_S640x128_o384_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 1 2
      (by omega) (by omega) (by omega) rfl rfl rfl rfl rfl rfl (by omega) (by omega) (keys0_low _ _) (vals0_low _ _)
      (keys0_high _ _) (vals0_high _ _) slices_S640x128_o256_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 1 1
      (by omega) (by omega) (by omega) rfl rfl rfl rfl rfl rfl (by omega) (by omega) (keys0_low _ _) (vals0_low _ _)
      (keys0_high _ _) (vals0_high _ _) slices_S640x128_o128_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 1 0
      (by omega) (by omega) (by omega) rfl rfl rfl rfl rfl rfl (by omega) (by omega) (keys0_low _ _) (vals0_low _ _)
      (keys0_high _ _) (vals0_high _ _) slices_S640x128_o0_0_S256x128 (off_eq _ 2 (by omega)) (off_eq _ 3 (by omega)) _ _ _ _ _ _ r l x1 x2
      (by simpa using h1) (by simpa using h2))
  · exact (piece (iblk m c 0 t) (iblk m c 1 t) (iblk m c 2 t) (iblk m c 3 t) (iblk m c 4 t) (grid0.coords t 1).val 0 0 3
      (by omega) (by omega) (by omega) rfl rfl rfl rfl rfl rfl (by omega) (by omega) (keys0_low _ _) (vals0_low _ _)
      (keys0_high _ _) (vals0_high _ _) slices_S640x128_o384_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 0 2
      (by omega) (by omega) (by omega) rfl rfl rfl rfl rfl rfl (by omega) (by omega) (keys0_low _ _) (vals0_low _ _)
      (keys0_high _ _) (vals0_high _ _) slices_S640x128_o256_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 0 1
      (by omega) (by omega) (by omega) rfl rfl rfl rfl rfl rfl (by omega) (by omega) (keys0_low _ _) (vals0_low _ _)
      (keys0_high _ _) (vals0_high _ _) slices_S640x128_o128_0_S256x128 rfl rfl _ _ _ _ _ _ r l x1 x2
      (by simpa using h1) (by simpa using h2))
  · exact (piece (iblk m c 0 t) (iblk m c 1 t) (iblk m c 2 t) (iblk m c 3 t) (iblk m c 4 t) (grid0.coords t 1).val 0 0 0
      (by omega) (by omega) (by omega) rfl rfl rfl rfl rfl rfl (by omega) (by omega) (keys0_low _ _) (vals0_low _ _)
      (keys0_high _ _) (vals0_high _ _) slices_S640x128_o0_0_S256x128 (off_eq _ 0 (by omega)) (off_eq _ 1 (by omega)) _ _ _ _ _ _ r l x1 x2
      (by simpa using h1) (by simpa using h2))

end Layer.Mix
-- ==== Proof.MixIn.lean ====
module

public import proofs.«01_k».proof.Proof.MixOut
public import Idealize.ShloMosaic.Lib.StableHlo.Run
public import Idealize.ShloMosaic.Lib.Pipeline.Value
public import Idealize.ShloMosaic.Lib.Tactic
public import Idealize.ShloMosaic.Lib.Quiescent
public import Idealize.ShloMosaic.Lib.Pointwise

@[expose] public section

set_option maxRecDepth 16384

noncomputable section

/-!
The first mixer's blocks, as functions of the arguments, and its result array.
-/

namespace Layer.Mix

open Cert.KernelIdeal Cert.KernelIdeal.Gen Idealize.ShloMosaic Idealize.ShloMosaic.TcCoe Idealize.SL Idealize.SL.Sem
open scoped BigOperators

/-- The row of key `kk` of 128 rows' 256 keys: the 128 rows before (the first 128 have themselves there), then their own. -/
def keyRow (n : Fin 32) (kk : Fin 256) : Fin 4096 :=
  ⟨if kk.val < 128 then (n.val - 1) * 128 + kk.val else n.val * 128 + (kk.val - 128), by split <;> omega⟩

/-- The mixer's result in row `s` and lane `l` of array `b`. -/
def mixAt (T : Vec Ideal S16x128x256 .f32) (S : Vec Ideal S1x8 .f32) (Q : Vec Ideal S8x2x4096x256 .bf16)
    (X : Vec Ideal S8x4096x256 .bf16) (b : Fin 8) (s : Fin 4096) (l : Fin 512) : EReal :=
  sinkOut
    (tileLog (fun d => Q (ix4 b (⟨l.val / 256, by omega⟩ : Fin 2) s (⟨l.val % 256 / 64 * 64 + d.val, by omega⟩ : Fin 256)))
      (fun kk d => X (ix3 b (keyRow ⟨s.val / 128, by omega⟩ kk) (⟨l.val / 256 * 64 + d.val, by omega⟩ : Fin 256)))
      (fun kk => T (ix3 (⟨tabRow 0 (s.val / 128) (l.val / 64), tabRow_lt (by omega)⟩ : Fin 16)
        (⟨s.val % 128, by omega⟩ : Fin 128) kk)))
    (fun kk => X (ix3 b (keyRow ⟨s.val / 128, by omega⟩ kk) (⟨128 + (l.val / 256 * 64 + l.val % 64), by omega⟩ : Fin 256)))
    (S (ix2 0 (⟨l.val / 64, by omega⟩ : Fin 8)))

variable (m : (ℓ : Loc nD τ Cert.KernelIdeal.sig) → Buf (Elt Ideal) ℓ)

theorem V_v0 (c : Dev nD) : V (F := Ideal) m c main_v0 =
    shapeCast S8 (m ((c : Thread nD τ).loc main_arg1)) shapeCasts_S1x8_S8 := by
  change StableHlo.after hostOps0 (fun b => m (c, b)) (Proc.devRef .tc main_v0) = _
  unfold_abbrev_sides
  after_results
  rfl

theorem idx0 : ∀ t : Fin cfg0.N, win0_0.index t = ![0] := by decide +kernel

theorem idx1 : ∀ t : Fin cfg0.N, win0_1.index t = ![t.val / 8, 0, t.val % 8, 0] := by decide +kernel

theorem idx2 : ∀ t : Fin cfg0.N, win0_2.index t = ![t.val / 8, t.val % 8 * 4 - 1, 0] := by decide +kernel

theorem idx3 : ∀ t : Fin cfg0.N, win0_3.index t = ![t.val / 8, t.val % 8, 0] := by decide +kernel

theorem idx4 : ∀ t : Fin cfg0.N, win0_4.index t = ![0, 0, 0] := by decide +kernel

theorem idx5 : ∀ t : Fin cfg0.N, win0_5.index t = ![t.val / 8, t.val % 8, 0] := by decide +kernel

theorem coord1 : ∀ t : Fin cfg0.N, (grid0.coords t 1).val = t.val % 8 := by decide +kernel

theorem blk0 (c : Dev nD) (t : Fin cfg0.N) (h : Fin 8) : (iblk (F := Ideal) m c 0 t : Vec Ideal S8 .f32) (ix1 h) =
    m ((c : Thread nD τ).loc main_arg1) (ix2 0 h) := by
  blk_simp [iblk]
  have e : (win0_0.blk t).view.emb (ix1 h) = ix1 h := by blk_ext [idx0]
  change V m c main_v0 _ = _
  rw [e, V_v0]
  pointwise []

theorem blk1 (c : Dev nD) (t : Fin cfg0.N) (ht : t.val < 64) (g : Fin 2) (r : Fin 512) (l : Fin 256) :
    (iblk (F := Ideal) m c 1 t : Vec Ideal S1x2x512x256 .bf16) (ix4 0 g r l) =
    m ((c : Thread nD τ).loc main_arg2) (ix4 (⟨t.val / 8, by omega⟩ : Fin 8) g (⟨t.val % 8 * 512 + r.val, by omega⟩ : Fin 4096) l) := by
  blk_simp [iblk]
  have e : (win0_1.blk t).view.emb (ix4 0 g r l) = ix4 (⟨t.val / 8, by omega⟩ : Fin 8) g (⟨t.val % 8 * 512 + r.val, by omega⟩ : Fin 4096) l := by blk_ext [idx1]
  change V m c main_arg2 _ = _
  rw [e, V_main_arg2]

theorem blk2 (c : Dev nD) (t : Fin cfg0.N) (ht : t.val < 64) (r : Fin 128) (l : Fin 256) :
    (iblk (F := Ideal) m c 2 t : Vec Ideal S1x128x256 .bf16) (ix3 0 r l) =
    m ((c : Thread nD τ).loc main_arg3) (ix3 (⟨t.val / 8, by omega⟩ : Fin 8) (⟨(t.val % 8 * 4 - 1) * 128 + r.val, by omega⟩ : Fin 4096) l) := by
  blk_simp [iblk]
  have e : (win0_2.blk t).view.emb (ix3 0 r l) = ix3 (⟨t.val / 8, by omega⟩ : Fin 8) (⟨(t.val % 8 * 4 - 1) * 128 + r.val, by omega⟩ : Fin 4096) l := by blk_ext [idx2]
  change V m c main_arg3 _ = _
  rw [e, V_main_arg3]

theorem blk3 (c : Dev nD) (t : Fin cfg0.N) (ht : t.val < 64) (r : Fin 512) (l : Fin 256) :
    (iblk (F := Ideal) m c 3 t : Vec Ideal S1x512x256 .bf16) (ix3 0 r l) =
    m ((c : Thread nD τ).loc main_arg3) (ix3 (⟨t.val / 8, by omega⟩ : Fin 8) (⟨t.val % 8 * 512 + r.val, by omega⟩ : Fin 4096) l) := by
  blk_simp [iblk]
  have e : (win0_3.blk t).view.emb (ix3 0 r l) = ix3 (⟨t.val / 8, by omega⟩ : Fin 8) (⟨t.val % 8 * 512 + r.val, by omega⟩ : Fin 4096) l := by blk_ext [idx3]
  change V m c main_arg3 _ = _
  rw [e, V_main_arg3]

theorem blk4 (c : Dev nD) (t : Fin cfg0.N) (h : Fin 16) (r : Fin 128) (l : Fin 256) :
    (iblk (F := Ideal) m c 4 t : Vec Ideal S16x128x256 .f32) (ix3 h r l) =
    m ((c : Thread nD τ).loc main_arg0) (ix3 h r l) := by
  blk_simp [iblk]
  have e : (win0_4.blk t).view.emb (ix3 h r l) = ix3 h r l := by blk_ext [idx4]
  change V m c main_arg0 _ = _
  rw [e, V_main_arg0]

/-- A point's keys and values are the arrays' rows. -/
theorem kv_val (c : Dev nD) (t : Fin cfg0.N) (ht : t.val < 64) (r : Fin 512) (kk : Fin 256) (l : Fin 256) :
    kv (iblk (F := Ideal) m c 2 t) (iblk (F := Ideal) m c 3 t) ⟨r.val / 128 * 128 + kk.val, by omega⟩ l =
      m ((c : Thread nD τ).loc main_arg3) (ix3 (⟨t.val / 8, by omega⟩ : Fin 8)
        (keyRow ⟨(t.val % 8 * 512 + r.val) / 128, by omega⟩ kk) l) := by
  unfold kv
  split
  · next h =>
    refine (blk2 m c t ht _ l).trans ?_
    refine congrArg (fun z => m ((c : Thread nD τ).loc main_arg3) (ix3 _ z l)) (Fin.ext ?_)
    simp only [keyRow] at h ⊢
    split <;> omega
  · next h =>
    refine (blk3 m c t ht _ l).trans ?_
    refine congrArg (fun z => m ((c : Thread nD τ).loc main_arg3) (ix3 _ z l)) (Fin.ext ?_)
    simp only [keyRow] at h ⊢
    split <;> omega

/-- The mixer's result in the run. -/
def mixVal (c : Dev nD) (b : Fin 8) (s : Fin 4096) (l : Fin 512) : EReal :=
  mixAt (m ((c : Thread nD τ).loc main_arg0)) (m ((c : Thread nD τ).loc main_arg1)) (m ((c : Thread nD τ).loc main_arg2))
    (m ((c : Thread nD τ).loc main_arg3)) b s l

theorem out_val (c : Dev nD) (t : Fin cfg0.N) (ht : t.val < 64) (r l : Fin 512) :
    outsAt0 (F := Ideal) m c t (ix3 0 r l) =
      mixVal m c ⟨t.val / 8, by omega⟩ ⟨t.val % 8 * 512 + r.val, by omega⟩ l := by
  rw [out5]
  unfold blockOut mixVal mixAt
  have e1 : (t.val % 8 * 512 + r.val) % 128 = r.val % 128 := by omega
  have e2 : tabRow (grid0.coords t 1).val (r.val / 128) (l.val / 64) = tabRow 0 ((t.val % 8 * 512 + r.val) / 128) (l.val / 64) := by
    rw [coord1]; unfold tabRow
    refine congrArg (2 * (l.val / 64) + ·) (if_congr ?_ rfl rfl)
    omega
  simp only [kv_val m c t ht, blk0, blk1 m c t ht, blk4, e1, e2]

/-- The mixer's results. -/
def mixArr (c : Dev nD) : Vec Ideal S8x4096x512 .bf16 := fun y => mixVal m c (y 0) (y 1) (y 2)

theorem final5 (c : Dev nD) : (dats (F := Ideal) m 0 c).arrAt 5 cfg0.N = mixArr m c := by
  refine (dats m 0 c).arrAt_eq_of_covers 5 _ (by decide +kernel) fun t hf y => ?_
  have ht : t.val < 64 := t.isLt
  blk_simp
  rw [after0_5]
  idx_vars y
  obtain rfl : y0 = 0 := Subsingleton.elim _ _
  have e : (win0_5.blk t).view.emb (ix3 0 y1 y2) = ix3 (⟨t.val / 8, by omega⟩ : Fin 8) (⟨t.val % 8 * 512 + y1.val, by omega⟩ : Fin 4096) y2 := by blk_ext [idx5]
  exact (out_val m c t ht y1 y2).trans (congrArg (mixArr m c) e).symm

end Layer.Mix
-- ==== Proof.RefMix.lean ====
module

public import proofs.«01_k».proof.Proof.MixIn
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A query. -/
theorem q (b : Fin 8) (n : Fin 32) (i : Fin 128) (g : Fin 2) (h : Fin 4) (d : Fin 64) :
    val_main_v3 (F := Ideal) x2 (ix6 b n i g h d) =
      x2 (ix4 b g (⟨n.val * 128 + i.val, by omega⟩ : Fin 4096) (⟨h.val * 64 + d.val, by omega⟩ : Fin 256)) := by
  pointwise [val_main_v0, val_main_v1, val_main_v2, val_main_v3]
  refine congrArg (fun z => x2 (ix4 b g _ z)) (Fin.ext ?_)
  change (g.val * 4 + h.val) % 4 * 64 + d.val = h.val * 64 + d.val
  omega

/-- A row's own keys and values. -/
theorem own (b : Fin 8) (n : Fin 32) (i : Fin 128) (e g : Fin 2) (d : Fin 64) :
    val_main_v5 (F := Ideal) x3 (ix6 b n i e g d) =
      x3 (ix3 b (⟨n.val * 128 + i.val, by omega⟩ : Fin 4096) (⟨e.val * 128 + g.val * 64 + d.val, by omega⟩ : Fin 256)) := by
  pointwise [val_main_v4, val_main_v5]

/-- The keys and values before. -/
theorem before (b : Fin 8) (n : Fin 32) (i : Fin 128) (e g : Fin 2) (d : Fin 64) :
    val_main_v8 (F := Ideal) x3 (ix6 b n i e g d) =
      val_main_v5 (F := Ideal) x3 (ix6 b (⟨n.val - 1, by omega⟩ : Fin 32) i e g d) := by
  unfold val_main_v8 val_main_v7 val_main_v6
  generalize val_main_v5 (F := Ideal) x3 = w
  pointwise []
  split
  · next hn => exact congrArg (fun z => w (ix6 b z i e g d)) (Fin.ext (by change n.val = n.val - 1; omega))
  · rfl

/-- The keys and values of both. -/
theorem both (b : Fin 8) (n : Fin 32) (kk : Fin 256) (e g : Fin 2) (d : Fin 64) :
    val_main_v9 (F := Ideal) x3 (ix6 b n kk e g d) =
      x3 (ix3 b (Mix.keyRow n kk) (⟨e.val * 128 + g.val * 64 + d.val, by omega⟩ : Fin 256)) := by
  have h1 := before x3 b n
  have h2 := own x3 b
  unfold val_main_v9
  generalize val_main_v8 (F := Ideal) x3 = v at *
  generalize val_main_v5 (F := Ideal) x3 = w at *
  pointwise []
  split
  · next hk =>
    rw [h1, h2]
    refine congrArg (fun z => x3 (ix3 b z _)) (Fin.ext ?_)
    simp [Mix.keyRow, hk]
  · next hk =>
    rw [h2]
    refine congrArg (fun z => x3 (ix3 b z _)) (Fin.ext ?_)
    simp [Mix.keyRow, hk]

/-- A key. -/
theorem key (b : Fin 8) (n : Fin 32) (kk : Fin 256) (g : Fin 2) (d : Fin 64) :
    val_main_v9 (F := Ideal) x3 (ix6 b n kk 0 g d) =
      x3 (ix3 b (Mix.keyRow n kk) (⟨g.val * 64 + d.val, by omega⟩ : Fin 256)) := by
  have e : (⟨(0 : Fin 2).val * 128 + g.val * 64 + d.val, by omega⟩ : Fin 256) = ⟨g.val * 64 + d.val, by omega⟩ :=
    Fin.ext (by change 0 * 128 + g.val * 64 + d.val = g.val * 64 + d.val; omega)
  exact (both x3 b n kk 0 g d).trans (congrArg (fun z : Fin 256 => x3 (ix3 b (Mix.keyRow n kk) z)) e)

/-- A value. -/
theorem val (b : Fin 8) (n : Fin 32) (kk : Fin 256) (g : Fin 2) (d : Fin 64) :
    val_main_v9 (F := Ideal) x3 (ix6 b n kk 1 g d) =
      x3 (ix3 b (Mix.keyRow n kk) (⟨128 + (g.val * 64 + d.val), by omega⟩ : Fin 256)) := by
  have e : (⟨(1 : Fin 2).val * 128 + g.val * 64 + d.val, by omega⟩ : Fin 256) = ⟨128 + (g.val * 64 + d.val), by omega⟩ :=
    Fin.ext (by change 1 * 128 + g.val * 64 + d.val = 128 + (g.val * 64 + d.val); omega)
  exact (both x3 b n kk 1 g d).trans (congrArg (fun z : Fin 256 => x3 (ix3 b (Mix.keyRow n kk) z)) e)

/-- The table's bias. -/
theorem tab (n : Fin 32) (g : Fin 2) (h : Fin 4) (i : Fin 128) (kk : Fin 256) :
    val_main_v19 (F := Ideal) x0 (ix5 n g h i kk) =
      x0 (ix3 (⟨Mix.tabRow 0 n.val (g.val * 4 + h.val), Mix.tabRow_lt (by omega)⟩ : Fin 16) i kk) := by
  unfold val_main_v19
  pointwise [val_main_v14, val_main_v15, val_main_v16, val_main_v17, val_main_v18]
  split
  · next hn =>
    refine congrArg (fun z => x0 (ix3 z i kk)) (Fin.ext ?_)
    simp only [Mix.tabRow]
    rw [if_pos (by simp; omega)]; omega
  · next hn =>
    refine congrArg (fun z => x0 (ix3 z i kk)) (Fin.ext ?_)
    simp only [Mix.tabRow]
    rw [if_neg (fun hz => hn (by omega))]; omega

end Layer.MixRef
-- ==== Proof.RefMixLog.lean ====
module

public import proofs.«01_k».proof.Proof.RefMix
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A row's logits. -/
theorem logit (b : Fin 8) (n : Fin 32) (g : Fin 2) (h : Fin 4) (i : Fin 128) (kk : Fin 256) :
    val_main_v24 (F := Ideal) x0 x2 x3 (ix6 b n g h i kk) =
      tileLog (fun d => x2 (ix4 b g (⟨n.val * 128 + i.val, by omega⟩ : Fin 4096) (⟨h.val * 64 + d.val, by omega⟩ : Fin 256)))
        (fun kk d => x3 (ix3 b (Mix.keyRow n kk) (⟨g.val * 64 + d.val, by omega⟩ : Fin 256)))
        (fun kk => x0 (ix3 (⟨Mix.tabRow 0 n.val (g.val * 4 + h.val), Mix.tabRow_lt (by omega)⟩ : Fin 16) i kk)) kk := by
  have h1 := tab x0
  have h2 := q x2
  have h3 := key x3
  unfold val_main_v24 val_main_v23 val_main_v22 val_main_v21 val_main_v20 val_main_v11 val_main_v10
  generalize val_main_v19 (F := Ideal) x0 = t at *
  generalize val_main_v3 (F := Ideal) x2 = v at *
  generalize val_main_v9 (F := Ideal) x3 = w at *
  pointwise []
  unfold tileLog
  simp only [h1, h2, h3]
  refine congrArg (· + _) (Finset.sum_congr rfl fun d _ => ?_)
  exact mul_comm _ _

end Layer.MixRef
-- ==== Proof.RefMixPeak.lean ====
module

public import proofs.«01_k».proof.Proof.RefMix
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A row's peak. -/
theorem peak (b : Fin 8) (n : Fin 32) (g : Fin 2) (h : Fin 4) (i : Fin 128) :
    val_main_v25 (F := Ideal) x0 x2 x3 (ix5 b n g h i) =
      softMax (fun kk => val_main_v24 (F := Ideal) x0 x2 x3 (ix6 b n g h i kk)) := by
  unfold val_main_v25
  generalize val_main_v24 (F := Ideal) x0 x2 x3 = t
  have e0 : val_main_cst (F := Ideal) (Shape.Idx.first h_S_) = (⊥ : EReal) := by
    pointwise [val_main_cst]
    simp [Ideal.ofBits, Ideal.ieee]
  change Host.reduce (α := EReal) max t _ reducesTo_S8x32x2x4x128x256_S8x32x2x4x128_d5 h_S_ _ = _
  rw [Host.reduce_eq_fold_single (α := EReal) max t _ reducesTo_S8x32x2x4x128x256_S8x32x2x4x128_d5 (by decide), e0]
  unfold softMax
  refine congrArg (Finset.univ.fold max (⊥ : EReal)) (funext fun kk => congrArg t ?_)
  funext a; fin_cases a <;> rfl

end Layer.MixRef
-- ==== Proof.RefMixSum.lean ====
module

public import proofs.«01_k».proof.Proof.RefMixPeak
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A row's weights. -/
theorem weight (b : Fin 8) (n : Fin 32) (g : Fin 2) (h : Fin 4) (i : Fin 128) (kk : Fin 256) :
    val_main_v29 (F := Ideal) x0 x2 x3 (ix6 b n g h i kk) =
      softW (softMax fun kk => val_main_v24 (F := Ideal) x0 x2 x3 (ix6 b n g h i kk)) (val_main_v24 (F := Ideal) x0 x2 x3 (ix6 b n g h i kk)) := by
  have h1 := peak x0 x2 x3 b n g h i
  rw [← h1]
  unfold val_main_v29 val_main_v28 val_main_v27 val_main_v26
  generalize val_main_v25 (F := Ideal) x0 x2 x3 = p
  generalize val_main_v24 (F := Ideal) x0 x2 x3 = t
  pointwise []
  rfl

/-- A row's total. -/
theorem total (b : Fin 8) (n : Fin 32) (g : Fin 2) (h : Fin 4) (i : Fin 128) :
    val_main_v30 (F := Ideal) x0 x2 x3 (ix5 b n g h i) =
      softDen (fun kk => val_main_v24 (F := Ideal) x0 x2 x3 (ix6 b n g h i kk)) := by
  rw [val_main_v30_apply]
  have e0 : val_main_cst_0 (F := Ideal) (Shape.Idx.first h_S_) = (0 : EReal) := by
    pointwise [val_main_cst_0]
  rw [e0, zero_add]
  unfold softDen
  refine Finset.sum_congr rfl fun kk _ => ?_
  refine Eq.trans (congrArg (val_main_v29 (F := Ideal) x0 x2 x3) ?_) (weight x0 x2 x3 b n g h i kk)
  funext a; fin_cases a <;> rfl

end Layer.MixRef
-- ==== Proof.RefMixVal.lean ====
module

public import proofs.«01_k».proof.Proof.RefMixSum
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A row's values weighted. -/
theorem weighted (b : Fin 8) (n : Fin 32) (g : Fin 2) (h : Fin 4) (i : Fin 128) (d : Fin 64) :
    val_main_v31 (F := Ideal) x0 x2 x3 (ix6 b n g h i d) =
      softOut (fun kk => val_main_v24 (F := Ideal) x0 x2 x3 (ix6 b n g h i kk))
        (fun kk => x3 (ix3 b (Mix.keyRow n kk) (⟨128 + (g.val * 64 + d.val), by omega⟩ : Fin 256))) := by
  have h1 := weight x0 x2 x3 b n g h i
  have h3 := val x3
  unfold val_main_v31 val_main_v13 val_main_v12
  generalize val_main_v29 (F := Ideal) x0 x2 x3 = t at *
  generalize val_main_v9 (F := Ideal) x3 = w at *
  pointwise []
  simp only [h1, h3]
  unfold softOut
  rfl

end Layer.MixRef
-- ==== Proof.RefMixSink.lean ====
module

public import proofs.«01_k».proof.Proof.RefMix
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- A head's sink logit. -/
theorem sink35 (b : Fin 8) (n : Fin 32) (g : Fin 2) (h : Fin 4) (i : Fin 128) :
    val_main_v35 (F := Ideal) x1 (ix5 b n g h i) = x1 (ix2 0 (⟨g.val * 4 + h.val, by omega⟩ : Fin 8)) := by
  pointwise [val_main_v32, val_main_v33, val_main_v34, val_main_v35]

/-- A head's sink logit. -/
theorem sink41 (b : Fin 8) (n : Fin 32) (g : Fin 2) (h : Fin 4) (i : Fin 128) :
    val_main_v41 (F := Ideal) x1 (ix5 b n g h i) = x1 (ix2 0 (⟨g.val * 4 + h.val, by omega⟩ : Fin 8)) := by
  pointwise [val_main_v32, val_main_v33, val_main_v40, val_main_v41]

/-- The result. -/
theorem res (t : Fin 32768) (l : Fin 512) :
    val_main_v51 (F := Ideal) x0 x1 x2 x3 (ix2 t l) =
      val_main_v48 (F := Ideal) x0 x1 x2 x3 (ix6 (⟨t.val / 4096, by omega⟩ : Fin 8) (⟨t.val % 4096 / 128, by omega⟩ : Fin 32)
        (⟨l.val / 256, by omega⟩ : Fin 2) (⟨l.val % 256 / 64, by omega⟩ : Fin 4) (⟨t.val % 128, by omega⟩ : Fin 128)
        (⟨l.val % 64, by omega⟩ : Fin 64)) := by
  unfold val_main_v51 val_main_v50 val_main_v49
  generalize val_main_v48 (F := Ideal) x0 x1 x2 x3 = w
  pointwise []
  have e1 : (⟨t.val / 128 % 32, by omega⟩ : Fin 32) = ⟨t.val % 4096 / 128, by omega⟩ := Fin.ext (by
    change t.val / 128 % 32 = t.val % 4096 / 128; omega)
  have e2 : (⟨l.val / 64 % 4, by omega⟩ : Fin 4) = ⟨l.val % 256 / 64, by omega⟩ := Fin.ext (by
    change l.val / 64 % 4 = l.val % 256 / 64; omega)
  rw [e1, e2]

end Layer.MixRef
-- ==== Proof.RefMixOut.lean ====
module

public import proofs.«01_k».proof.Proof.RefMixVal
public import proofs.«01_k».proof.Proof.RefMixSink
public import proofs.«01_k».proof.Proof.Gen.ReferenceIdeal.Read
public import Idealize.ShloMosaic.Lib.Pointwise

@[expose] public section

set_option maxRecDepth 16384

noncomputable section

/-!
The first mixer's reference read at an index.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- The output. -/
theorem out (b : Fin 8) (n : Fin 32) (g : Fin 2) (h : Fin 4) (i : Fin 128) (d : Fin 64) :
    val_main_v48 (F := Ideal) x0 x1 x2 x3 (ix6 b n g h i d) =
      sinkOut (fun kk => val_main_v24 (F := Ideal) x0 x2 x3 (ix6 b n g h i kk))
        (fun kk => x3 (ix3 b (Mix.keyRow n kk) (⟨128 + (g.val * 64 + d.val), by omega⟩ : Fin 256)))
        (x1 (ix2 0 (⟨g.val * 4 + h.val, by omega⟩ : Fin 8))) := by
  have e : idx_main_v46 (idx_main_v47 (ix6 b n g h i d)) = ix5 b n g h i := by
    funext a; fin_cases a <;> rfl
  rw [val_main_v48_apply, val_main_v47_apply, val_main_v46_apply, e, val_main_v45_apply, val_main_v44_apply,
    val_main_v43_apply, val_main_v42_apply, val_main_v39_apply, val_main_v38_apply, val_main_v37_apply,
    val_main_v36_apply, sink35, sink41, peak, total, weighted]
  unfold sinkOut
  generalize softMax _ = p
  generalize softDen _ = t
  generalize softOut _ _ = o
  generalize x1 _ = u
  rfl

end Layer.MixRef
-- ==== Proof.MixClaim.lean ====
module

public import proofs.«01_k».proof.Proof.RefMixLog
public import proofs.«01_k».proof.Proof.RefMixOut
public import proofs.«01_k».proof.Defs

@[expose] public section

set_option maxRecDepth 16384

noncomputable section

/-!
The first mixer: kernel and reference end with equal results.
-/

namespace Layer.MixRef

open Cert.ReferenceIdeal Cert.ReferenceIdeal.Gen Cert.ReferenceIdeal.Read Idealize.ShloMosaic
open scoped BigOperators

variable (x0 : (⟨S16x128x256, .f32⟩ : BufTy).Contents (Elt Ideal))
  (x1 : (⟨S1x8, .f32⟩ : BufTy).Contents (Elt Ideal))
  (x2 : (⟨S8x2x4096x256, .bf16⟩ : BufTy).Contents (Elt Ideal))
  (x3 : (⟨S8x4096x256, .bf16⟩ : BufTy).Contents (Elt Ideal))

/-- The mixer's result in the reference. -/
theorem value (t : Fin 32768) (l : Fin 512) :
    val_main_v51 (F := Ideal) x0 x1 x2 x3 (ix2 t l) =
      Mix.mixAt x0 x1 x2 x3 (⟨t.val / 4096, by omega⟩ : Fin 8) (⟨t.val % 4096, by omega⟩ : Fin 4096) l := by
  rw [res, out]
  simp only [logit]
  unfold Mix.mixAt
  have a1 : l.val / 256 * 4 + l.val % 256 / 64 = l.val / 64 := by omega
  have a2 : t.val % 4096 / 128 * 128 + t.val % 128 = t.val % 4096 := by omega
  have a3 : t.val % 4096 % 128 = t.val % 128 := by omega
  simp only [a1, a2, a3]

end Layer.MixRef

namespace Layer.Mix

open Cert.KernelIdeal Cert.KernelIdeal.Gen Idealize.ShloMosaic Idealize.ShloMosaic.TcCoe Idealize.SL Idealize.SL.Sem
open Cert.ReferenceIdeal.Read
open scoped BigOperators

variable (m : (ℓ : Loc nD τ Cert.KernelIdeal.sig) → Buf (Elt Ideal) ℓ)

variable (m' : (ℓ : Loc Cert.ReferenceIdeal.nD Cert.ReferenceIdeal.τ Cert.ReferenceIdeal.sig) → Buf (Elt Ideal) ℓ)

/-- The two programs' arguments agree. -/
def Agree : Prop := ∀ c : Dev nD,
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)

/-- The result, a row for each token. -/
def result (c : Dev nD) : Vec Ideal S32768x512 .bf16 := fun y =>
  mixVal m c ⟨(y 0).val / 4096, by have : (y 0).val < 32768 := (y 0).isLt; omega⟩
    ⟨(y 0).val % 4096, by omega⟩ (y 1)

theorem mixAt_eq (h : Agree m m') (c : Dev nD) (b : Fin 8) (s : Fin 4096) (l : Fin 512) :
    mixAt (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) b s l = mixVal m c b s l := by
  obtain ⟨e0, e1, e2, e3⟩ := h c
  rw [e0, e1, e2, e3]
  rfl

theorem ref51 (h : Agree m m') (c : Dev nD) :
    val_main_v51 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = result m c := by
  funext y
  idx_vars y
  refine (MixRef.value _ _ _ _ y0 y1).trans ?_
  exact mixAt_eq m m' h c _ _ y1

theorem reshape_mix (x : Vec Ideal S8x4096x512 .bf16) (t : Fin 32768) (l : Fin 512) :
    shapeCast S32768x512 x shapeCasts_S8x4096x512_S32768x512 (ix2 t l) =
      x (ix3 (⟨t.val / 4096, by omega⟩ : Fin 8) (⟨t.val % 4096, by omega⟩ : Fin 4096) l) := by
  pointwise []

/-- Two of the windows read the same array; the result's array is one window's. -/
theorem only_out : ∀ w : Fin 6, Pipeline.arrRef cfg0.spec w = Pipeline.arrRef cfg0.spec 5 → w = 5 := by decide

theorem withArrays_out (c : Dev nD) (V : Valuation τ Cert.KernelIdeal.sig (Elt Ideal))
    (A : (w : Fin 6) → Buf (Elt Ideal) ((cfg0.spec w).arr.view.loc (c.tc : Thread nD τ))) :
    Pipeline.withArrays cfg0.spec c V A (Proc.devRef .tc (Pipeline.arrRef cfg0.spec 5)) = A 5 := by
  unfold Pipeline.withArrays
  have h : ∃ w', Proc.devRef .tc (Pipeline.arrRef cfg0.spec w') = Proc.devRef (τ := τ) .tc (Pipeline.arrRef cfg0.spec 5) := ⟨5, rfl⟩
  rw [dif_pos h]
  suffices ∀ (w' : Fin 6) (e : Proc.devRef .tc (Pipeline.arrRef cfg0.spec w') = Proc.devRef (τ := τ) .tc (Pipeline.arrRef cfg0.spec 5)),
      cast (congrArg (fun b' : DevRef τ Cert.KernelIdeal.sig => b'.ty.Contents (Elt Ideal)) e) (A w') = A 5 from this _ h.choose_spec
  intro w' e
  obtain rfl := only_out w' (Proc.devRef_injective _ e)
  rfl

/-- What the host leaves in the result. -/
theorem tail_v2 (c : Dev nD) :
    Pipeline.afterTail₀ cfgs (dats (F := Ideal) m) 0 (V0 m) [hostOps1] c main_v2 = result m c := by
  have e : Pipeline.withArrays cfg0.spec c (V0 (F := Ideal) m c) (fun w => (dats m 0 c).arrAt w cfg0.N) (Proc.devRef .tc main_v1) =
      (dats m 0 c).arrAt 5 cfg0.N := withArrays_out c _ _
  have e' : Pipeline.afterTail₀ cfgs (dats (F := Ideal) m) 0 (V0 m) [hostOps1] c main_v2 =
      shapeCast S32768x512 (Pipeline.withArrays cfg0.spec c (V0 (F := Ideal) m c) (fun w => (dats m 0 c).arrAt w cfg0.N) (Proc.devRef .tc main_v1))
        shapeCasts_S8x4096x512_S32768x512 := by
    unfold Pipeline.afterTail₀
    generalize Pipeline.withArrays (cfgs 0).spec c (V0 (F := Ideal) m c) (fun w => (dats m 0 c).arrAt w (cfgs 0).N) = W
    change StableHlo.after hostOps1 W (Proc.devRef .tc main_v2) = _
    unfold_abbrev_sides
    after_results
    rfl
  rw [e', e, final5]
  funext y
  idx_vars y
  exact reshape_mix _ y0 y1

theorem algebraic : Cert.algebraic_KernelIdeal_ReferenceIdeal
    (hKernelIdeal := Cert.KernelIdeal.Gen.facts) (hReferenceIdeal := Cert.ReferenceIdeal.Gen.facts) := by
  intro m g m' g' _ hargs
  refine ⟨result m, ?_, ?_⟩
  · refine (θ_run _ _ _).mono (fun r h c => ?_) (θ_run_and (run_main (F := Ideal) m g) (unchanged (F := Ideal) m g))
    exact ⟨(h.1.rest_eq c main_v2 (by decide)).trans (tail_v2 m c), h.2 c⟩
  · refine (θ_run _ _ _).mono (fun r h c => ?_) (Cert.ReferenceIdeal.Value.run (F := Ideal) m' g')
    obtain ⟨h0, rest⟩ := h c
    exact ⟨h0.trans ((val_main_v51_eq _ c).trans (ref51 m m' hargs c)), rest⟩

end Layer.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal.Read
public import proofs.«01_k».proof.Proof.FirstClaim
public import proofs.«01_k».proof.Proof.LastClaim
public import proofs.«01_k».proof.Proof.MixClaim
public import Idealize.ShloMosaic.Adequacy
public import Idealize.ShloMosaic.Init

@[expose] public section

noncomputable section

namespace Cert.Proof

open Idealize.ShloMosaic Idealize.SL.Sem

/-- The first stage's reference terminates, keeps its arguments and leaves no counter up. -/
theorem frame_reference2ideal : Cert.quiescent_Reference2Ideal (hReference2Ideal := Cert.Reference2Ideal.Gen.facts) := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- The last stage's reference terminates, keeps its arguments and leaves no counter up. -/
theorem frame_reference3ideal : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The first mixer's reference terminates, keeps its arguments and leaves no counter up. -/
theorem frame_referenceideal : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The frames of the nine programs, and the equations of the first stage, the last stage and the first mixer. -/
theorem claim : Cert.Claim :=
  ⟨Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel.Gen.facts, Cert.KernelIdeal.Gen.facts,
    Cert.ReferenceIdeal.Gen.facts,
    fun m ρ _ => Cert.Kernel2.Gen.frame m ρ, fun m ρ _ => Cert.Kernel2Ideal.Gen.frame m ρ, frame_reference2ideal,
    fun m ρ _ => Cert.Kernel3.Gen.frame m ρ, fun m ρ _ => Cert.Kernel3Ideal.Gen.frame m ρ, frame_reference3ideal,
    fun m ρ _ => Cert.Kernel.Gen.frame m ρ, fun m ρ _ => Cert.KernelIdeal.Gen.frame m ρ, frame_referenceideal,
    trivial, Layer.First.algebraic, trivial, Layer.Last.algebraic, trivial, Layer.Mix.algebraic⟩

end Cert.Proof

end
